-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_2" .f32 0x3F3504F3#32 (((Real.sqrt 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2x196x512 : Shape := ⟨4, ![1, 2, 196, 512]⟩
abbrev S1x2x8x196x196 : Shape := ⟨5, ![1, 2, 8, 196, 196]⟩
abbrev S1536x512 : Shape := ⟨2, ![1536, 512]⟩
abbrev S512x512 : Shape := ⟨2, ![512, 512]⟩
abbrev S512 : Shape := ⟨1, ![512]⟩
abbrev S_ : Shape := ⟨0, ![]⟩
abbrev S1024x512 : Shape := ⟨2, ![1024, 512]⟩

class Facts : Prop where
  bcast_S_S1x2x196x512 : S_.BroadcastsInDim S1x2x196x512 (![] : Fin 0 → Fin S1x2x196x512.rank)
  reducesTo_S1x2x196x512_S_d0_1_2_3 : S1x2x196x512.ReducesTo [0, 1, 2, 3] S_
  h_S_ : 0 < S_.numel
  slices_S1536x512_S1024x512_0_0 : S1536x512.Slices ![0, 0] S1024x512
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S1x2x196x512 .f32) (main_arg1 : FVec F S1x2x8x196x196 .f32) (main_arg2 : FVec F S1536x512 .f32) (main_arg3 : FVec F S512x512 .f32) (main_arg4 : FVec F S512 .f32) : IVec S_ 1 :=
  let main_v0 : FVec F S1x2x196x512 .f32 := Host.absf main_arg0
  let main_cst : FVec F S_ .f32 := constant S_ .f32 0x7F800000#32
  let main_v1 : FVec F S1x2x196x512 .f32 := broadcastInDim S1x2x196x512 ![] bcast_S_S1x2x196x512 main_cst
  let main_v2 : IVec S1x2x196x512 1 := cmpf .olt main_v0 main_v1
  let main_c : IVec S_ 1 := constantI S_ 1 1#1
  let main_v3 : IVec S_ 1 := (fun x v => Host.reduce IntOp.andi x v reducesTo_S1x2x196x512_S_d0_1_2_3 h_S_) main_v2 main_c
  let main_v4 : FVec F S1024x512 .f32 := (extractStridedSlice S1024x512 ![0, 0] · slices_S1536x512_S1024x512_0_0) main_arg2
  let main_v5 : FVec F S1024x512 .f32 := Host.absf main_v4
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_c_1 : IVec S_ 1 := constantI S_ 1 1#1
  let main_v8 : IVec S_ 1 := (fun x v => Host.reduce IntOp.andi x v reducesTo_S1024x512_S_d0_1 h_S_) main_v7 main_c_1
  let main_v9 : IVec S_ 1 := andi main_v3 main_v8
  main_v9
-- ==== Kernel.lean ====
abbrev S1x2x196x512 : Shape := ⟨4, ![1, 2, 196, 512]⟩
abbrev S1x2x8x196x196 : Shape := ⟨5, ![1, 2, 8, 196, 196]⟩
abbrev S1536x512 : Shape := ⟨2, ![1536, 512]⟩
abbrev S512x512 : Shape := ⟨2, ![512, 512]⟩
abbrev S512 : Shape := ⟨1, ![512]⟩
abbrev S2x196x512 : Shape := ⟨3, ![2, 196, 512]⟩
abbrev S1x512 : Shape := ⟨2, ![1, 512]⟩
abbrev S_ : Shape := ⟨0, ![]⟩
abbrev S1x196x512 : Shape := ⟨3, ![1, 196, 512]⟩
abbrev S196x512 : Shape := ⟨2, ![196, 512]⟩
abbrev S196x64 : Shape := ⟨2, ![196, 64]⟩

abbrev nBuf : Space → Nat
  | .hbm => 9
  | .vmem => 5
  | .smem => 0
  | _ => 0

abbrev bufTy : (tb : Table) → Fin (tcTables nBuf tb) → BufTy
  | .hbm, ⟨0, _⟩ => ⟨S1x2x196x512, .f32⟩
  | .hbm, ⟨1, _⟩ => ⟨S1x2x8x196x196, .f32⟩
  | .hbm, ⟨2, _⟩ => ⟨S1536x512, .f32⟩
  | .hbm, ⟨3, _⟩ => ⟨S512x512, .f32⟩
  | .hbm, ⟨4, _⟩ => ⟨S512, .f32⟩
  | .hbm, ⟨5, _⟩ => ⟨S2x196x512, .f32⟩
  | .hbm, ⟨6, _⟩ => ⟨S1x512, .f32⟩
  | .hbm, ⟨7, _⟩ => ⟨S2x196x512, .f32⟩
  | .hbm, ⟨8, _⟩ => ⟨S1x2x196x512, .f32⟩
  | .local _ .vmem, ⟨0, _⟩ => ⟨S2x196x512, .f32⟩
  | .local _ .vmem, ⟨1, _⟩ => ⟨S512x512, .f32⟩
  | .local _ .vmem, ⟨2, _⟩ => ⟨S512x512, .f32⟩
  | .local _ .vmem, ⟨3, _⟩ => ⟨S1x512, .f32⟩
  | .local _ .vmem, ⟨4, _⟩ => ⟨S2x196x512, .f32⟩
  | _, _ => ⟨S1x2x196x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "inv_sqrt_2" => some (((Real.sqrt 2)⁻¹ : ℝ) : EReal)
  | _ => none
-- ==== ReferenceIdeal.lean ====
abbrev S1x2x196x512 : Shape := ⟨4, ![1, 2, 196, 512]⟩
abbrev S1x2x8x196x196 : Shape := ⟨5, ![1, 2, 8, 196, 196]⟩
abbrev S1536x512 : Shape := ⟨2, ![1536, 512]⟩
abbrev S512x512 : Shape := ⟨2, ![512, 512]⟩
abbrev S512 : Shape := ⟨1, ![512]⟩
abbrev S512x1536 : Shape := ⟨2, ![512, 1536]⟩
abbrev S1x2x196x1536 : Shape := ⟨4, ![1, 2, 196, 1536]⟩
abbrev S1x2x196x8x64 : Shape := ⟨5, ![1, 2, 196, 8, 64]⟩
abbrev S1x2x8x196x64 : Shape := ⟨5, ![1, 2, 8, 196, 64]⟩
abbrev S1x2x8x196x128 : Shape := ⟨5, ![1, 2, 8, 196, 128]⟩
abbrev S_ : Shape := ⟨0, ![]⟩
abbrev S1x2x8x196 : Shape := ⟨4, ![1, 2, 8, 196]⟩
abbrev S1x2x8x196x1 : Shape := ⟨5, ![1, 2, 8, 196, 1]⟩
abbrev S1x2x8x196x7 : Shape := ⟨5, ![1, 2, 8, 196, 7]⟩
abbrev S1x2x8x196x1x128 : Shape := ⟨6, ![1, 2, 8, 196, 1, 128]⟩
abbrev S1x2x8x196x7x128 : Shape := ⟨6, ![1, 2, 8, 196, 7, 128]⟩
abbrev S16x196x7x128 : Shape := ⟨4, ![16, 196, 7, 128]⟩
abbrev S16x196x7x64 : Shape := ⟨4, ![16, 196, 7, 64]⟩
abbrev S8x2x196x7x64 : Shape := ⟨5, ![8, 2, 196, 7, 64]⟩
abbrev S8x196x2x64x7 : Shape := ⟨5, ![8, 196, 2, 64, 7]⟩
abbrev S1568x2x64x7 : Shape := ⟨4, ![1568, 2, 64, 7]⟩
abbrev S8x196x2x7x64 : Shape := ⟨5, ![8, 196, 2, 7, 64]⟩
abbrev S1568x2x7x64 : Shape := ⟨4, ![1568, 2, 7, 64]⟩
abbrev S8x2x196x64 : Shape := ⟨4, ![8, 2, 196, 64]⟩
abbrev S8x196x2x64 : Shape := ⟨4, ![8, 196, 2, 64]⟩
abbrev S1568x2x1x64 : Shape := ⟨4, ![1568, 2, 1, 64]⟩
abbrev S1568x2x1x7 : Shape := ⟨4, ![1568, 2, 1, 7]⟩
abbrev S1568x2x1 : Shape := ⟨3, ![1568, 2, 1]⟩
abbrev S1568x2x1x1 : Shape := ⟨4, ![1568, 2, 1, 1]⟩
abbrev S1568x2x64 : Shape := ⟨3, ![1568, 2, 64]⟩
abbrev S1x8x2x196x64 : Shape := ⟨5, ![1, 8, 2, 196, 64]⟩
abbrev S1x1x1x512 : Shape := ⟨4, ![1, 1, 1, 512]⟩

abbrev nBuf : Space → Nat
  | .hbm => 120
  | .vmem => 0
  | .smem => 0
  | _ => 0

abbrev bufTy : (tb : Table) → Fin (tcTables nBuf tb) → BufTy
  | .hbm, ⟨0, _⟩ => ⟨S1x2x196x512, .f32⟩
  | .hbm, ⟨1, _⟩ => ⟨S1x2x8x196x196, .f32⟩
  | .hbm, ⟨2, _⟩ => ⟨S1536x512, .f32⟩
  | .hbm, ⟨3, _⟩ => ⟨S512x512, .f32⟩
  | .hbm, ⟨4, _⟩ => ⟨S512, .f32⟩
  | .hbm, ⟨5, _⟩ => ⟨S512x1536, .f32⟩
  | .hbm, ⟨6, _⟩ => ⟨S1x2x196x1536, .f32⟩
  | .hbm, ⟨7, _⟩ => ⟨S1x2x196x512, .f32⟩
  | .hbm, ⟨8, _⟩ => ⟨S1x2x196x512, .f32⟩
  | .hbm, ⟨9, _⟩ => ⟨S1x2x196x512, .f32⟩
  | .hbm, ⟨10, _⟩ => ⟨S1x2x196x8x64, .f32⟩
  | .hbm, ⟨11, _⟩ => ⟨S1x2x8x196x64, .f32⟩
  | .hbm, ⟨12, _⟩ => ⟨S1x2x196x8x64, .f32⟩
  | .hbm, ⟨13, _⟩ => ⟨S1x2x8x196x64, .f32⟩
  | .hbm, ⟨14, _⟩ => ⟨S1x2x196x8x64, .f32⟩
  | .hbm, ⟨15, _⟩ => ⟨S1x2x8x196x64, .f32⟩
  | .hbm, ⟨16, _⟩ => ⟨S1x2x8x196x128, .f32⟩
  | .hbm, ⟨17, _⟩ => ⟨S_, .f32⟩
  | .hbm, ⟨18, _⟩ => ⟨S1x2x8x196x196, .f32⟩
  | .hbm, ⟨19, _⟩ => ⟨S1x2x8x196x196, .f32⟩
  | .hbm, ⟨20, _⟩ => ⟨S_, .f32⟩
  | .hbm, ⟨21, _⟩ => ⟨S1x2x8x196, .f32⟩
  | .hbm, ⟨22, _⟩ => ⟨S_, .f32⟩
  | .hbm, ⟨23, _⟩ => ⟨S1x2x8x196, .f32⟩
  | .hbm, ⟨24, _⟩ => ⟨S1x2x8x196, .f32⟩
  | .hbm, ⟨25, _⟩ => ⟨S1x2x8x196x1, .f32⟩
  | .hbm, ⟨26, _⟩ => ⟨S1x2x8x196x196, .f32⟩
  | .hbm, ⟨27, _⟩ => ⟨S1x2x8x196x196, .f32⟩
  | .hbm, ⟨28, _⟩ => ⟨S1x2x8x196x196, .f32⟩
  | .hbm, ⟨29, _⟩ => ⟨S_, .f32⟩
  | .hbm, ⟨30, _⟩ => ⟨S1x2x8x196, .f32⟩
  | .hbm, ⟨31, _⟩ => ⟨S1x2x8x196x1, .f32⟩
  | .hbm, ⟨32, _⟩ => ⟨S1x2x8x196x196, .f32⟩
  | .hbm, ⟨33, _⟩ => ⟨S1x2x8x196x196, .f32⟩
  | .hbm, ⟨34, _⟩ => ⟨S1x2x8x196x196, .f32⟩
  | .hbm, ⟨35, _⟩ => ⟨S_, .f32⟩
  | .hbm, ⟨36, _⟩ => ⟨S1x2x8x196x196, .f32⟩
  | .hbm, ⟨37, _⟩ => ⟨S1x2x8x196x196, .f32⟩
  | .hbm, ⟨38, _⟩ => ⟨S_, .f32⟩
  | .hbm, ⟨39, _⟩ => ⟨S1x2x8x196, .f32⟩
  | .hbm, ⟨40, _⟩ => ⟨S_, .f32⟩
  | .hbm, ⟨41, _⟩ => ⟨S1x2x8x196, .f32⟩
  | .hbm, ⟨42, _⟩ => ⟨S1x2x8x196, .f32⟩
  | .hbm, ⟨43, _⟩ => ⟨S1x2x8x196x1, .f32⟩
  | .hbm, ⟨44, _⟩ => ⟨S1x2x8x196x196, .f32⟩
  | .hbm, ⟨45, _⟩ => ⟨S1x2x8x196x196, .f32⟩
  | .hbm, ⟨46, _⟩ => ⟨S1x2x8x196x196, .f32⟩
  | .hbm, ⟨47, _⟩ => ⟨S_, .f32⟩
  | .hbm, ⟨48, _⟩ => ⟨S1x2x8x196, .f32⟩
  | .hbm, ⟨49, _⟩ => ⟨S1x2x8x196x1, .f32⟩
  | .hbm, ⟨50, _⟩ => ⟨S1x2x8x196x196, .f32⟩
  | .hbm, ⟨51, _⟩ => ⟨S1x2x8x196x196, .f32⟩
  | .hbm, ⟨52, _⟩ => ⟨S_, .f32⟩
  | .hbm, ⟨53, _⟩ => ⟨S1x2x8x196x196, .f32⟩
  | .hbm, ⟨54, _⟩ => ⟨S1x2x8x196x196, .f32⟩
  | .hbm, ⟨55, _⟩ => ⟨S_, .f32⟩
  | .hbm, ⟨56, _⟩ => ⟨S1x2x8x196x196, .f32⟩
  | .hbm, ⟨57, _⟩ => ⟨S1x2x8x196x196, .f32⟩
  | .hbm, ⟨58, _⟩ => ⟨S_, .f32⟩
  | .hbm, ⟨59, _⟩ => ⟨S1x2x8x196x196, .f32⟩
  | .hbm, ⟨60, _⟩ => ⟨S1x2x8x196x196, .f32⟩
  | .hbm, ⟨61, _⟩ => ⟨S1x2x8x196x196, .f32⟩
  | .hbm, ⟨62, _⟩ => ⟨S1x2x8x196x7, .f32⟩
  | .hbm, ⟨63, _⟩ => ⟨S1x2x8x196x7, .i32⟩
  | .hbm, ⟨64, _⟩ => ⟨S1x2x8x196x1x128, .f32⟩
  | .hbm, ⟨65, _⟩ => ⟨S1x2x8x196x7x128, .f32⟩
  | .hbm, ⟨66, _⟩ => ⟨S16x196x7x128, .f32⟩
  | .hbm, ⟨67, _⟩ => ⟨S16x196x7x64, .f32⟩
  | .hbm, ⟨68, _⟩ => ⟨S16x196x7x64, .f32⟩
  | .hbm, ⟨69, _⟩ => ⟨S8x2x196x7x64, .f32⟩
  | .hbm, ⟨70, _⟩ => ⟨S8x196x2x64x7, .f32⟩
  | .hbm, ⟨71, _⟩ => ⟨S1568x2x64x7, .f32⟩
  | .hbm, ⟨72, _⟩ => ⟨S8x2x196x7x64, .f32⟩
  | .hbm, ⟨73, _⟩ => ⟨S8x196x2x7x64, .f32⟩
  | .hbm, ⟨74, _⟩ => ⟨S1568x2x7x64, .f32⟩
  | .hbm, ⟨75, _⟩ => ⟨S8x2x196x64, .f32⟩
  | .hbm, ⟨76, _⟩ => ⟨S8x196x2x64, .f32⟩
  | .hbm, ⟨77, _⟩ => ⟨S1568x2x1x64, .f32⟩
  | .hbm, ⟨78, _⟩ => ⟨S_, .f32⟩
  | .hbm, ⟨79, _⟩ => ⟨S1568x2x1x64, .f32⟩
  | .hbm, ⟨80, _⟩ => ⟨S1568x2x1x64, .f32⟩
  | .hbm, ⟨81, _⟩ => ⟨S1568x2x1x7, .f32⟩
  | .hbm, ⟨82, _⟩ => ⟨S_, .f32⟩
  | .hbm, ⟨83, _⟩ => ⟨S1568x2x1, .f32⟩
  | .hbm, ⟨84, _⟩ => ⟨S_, .f32⟩
  | .hbm, ⟨85, _⟩ => ⟨S1568x2x1, .f32⟩
  | .hbm, ⟨86, _⟩ => ⟨S1568x2x1, .f32⟩
  | .hbm, ⟨87, _⟩ => ⟨S1568x2x1x1, .f32⟩
  | .hbm, ⟨88, _⟩ => ⟨S1568x2x1x7, .f32⟩
  | .hbm, ⟨89, _⟩ => ⟨S1568x2x1x7, .f32⟩
  | .hbm, ⟨90, _⟩ => ⟨S1568x2x1x7, .f32⟩
  | .hbm, ⟨91, _⟩ => ⟨S_, .f32⟩
  | .hbm, ⟨92, _⟩ => ⟨S1568x2x1, .f32⟩
  | .hbm, ⟨93, _⟩ => ⟨S1568x2x1x1, .f32⟩
  | .hbm, ⟨94, _⟩ => ⟨S1568x2x1x7, .f32⟩
  | .hbm, ⟨95, _⟩ => ⟨S1568x2x1x7, .f32⟩
  | .hbm, ⟨96, _⟩ => ⟨S1568x2x1x64, .f32⟩
  | .hbm, ⟨97, _⟩ => ⟨S1568x2x64, .f32⟩
  | .hbm, ⟨98, _⟩ => ⟨S8x196x2x64, .f32⟩
  | .hbm, ⟨99, _⟩ => ⟨S8x2x196x64, .f32⟩
  | .hbm, ⟨100, _⟩ => ⟨S_, .f32⟩
  | .hbm, ⟨101, _⟩ => ⟨S8x2x196x64, .f32⟩
  | .hbm, ⟨102, _⟩ => ⟨S8x2x196x64, .f32⟩
  | .hbm, ⟨103, _⟩ => ⟨S_, .f32⟩
  | .hbm, ⟨104, _⟩ => ⟨S_, .f32⟩
  | .hbm, ⟨105, _⟩ => ⟨S8x2x196x64, .f32⟩
  | .hbm, ⟨106, _⟩ => ⟨S8x2x196x64, .f32⟩
  | .hbm, ⟨107, _⟩ => ⟨S8x2x196x64, .f32⟩
  | .hbm, ⟨108, _⟩ => ⟨S_, .f32⟩
  | .hbm, ⟨109, _⟩ => ⟨S8x2x196x64, .f32⟩
  | .hbm, ⟨110, _⟩ => ⟨S8x2x196x64, .f32⟩
  | .hbm, ⟨111, _⟩ => ⟨S8x2x196x64, .f32⟩
  | .hbm, ⟨112, _⟩ => ⟨S1x8x2x196x64, .f32⟩
  | .hbm, ⟨113, _⟩ => ⟨S1x2x196x8x64, .f32⟩
  | .hbm, ⟨114, _⟩ => ⟨S1x2x196x512, .f32⟩
  | .hbm, ⟨115, _⟩ => ⟨S512x512, .f32⟩
  | .hbm, ⟨116, _⟩ => ⟨S1x2x196x512, .f32⟩
  | .hbm, ⟨117, _⟩ => ⟨S1x1x1x512, .f32⟩
  | .hbm, ⟨118, _⟩ => ⟨S1x2x196x512, .f32⟩
  | .hbm, ⟨119, _⟩ => ⟨S1x2x196x512, .f32⟩
  | _, _ => ⟨S1x2x196x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_values : Ref sig .tc := ⟨.hbm, 62, rfl⟩
abbrev main_indices : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_cst_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_14 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== Proof.Body.lean ====
/- The body of the launch of the idealized kernel: what each of its buffers holds, and that the body, run from the arrays
   as the launch finds them, ends with the result of the launch at `out`, everything else as it was and each copy waited for. -/
module

public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The contents of the buffer under a memref. -/
abbrev Held (c : Dev nD) {sp : Space} {S : Shape} {e : EltTy} (M : Memref sig .tc sp S e) : Type := Buf (Elt F) (M.view.loc (c : Thread nD τ))
/-- The buffer under a memref, whole, at given contents. -/
abbrev pt (c : Dev nD) {sp : Space} {S : Shape} {e : EltTy} (M : Memref sig .tc sp S e) (f : Held (F := F) c M) : sProp 𝕄 :=
  M.view.loc (c : Thread nD τ) ↦{fullShare} f

abbrev mx : Memref sig .tc .hbm S2x196x512 .f32 := Memref.whole main_v0
abbrev mw : Memref sig .tc .hbm S1536x512 .f32 := Memref.whole main_arg2
abbrev mo : Memref sig .tc .hbm S512x512 .f32 := Memref.whole main_arg3
abbrev mb : Memref sig .tc .hbm S1x512 .f32 := Memref.whole main_v1
abbrev my : Memref sig .tc .hbm S2x196x512 .f32 := Memref.whole main_v2
abbrev m0 : Memref sig .tc .vmem S2x196x512 .f32 := Memref.whole cc0_scratch0
abbrev m1 : Memref sig .tc .vmem S512x512 .f32 := Memref.whole cc0_scratch1
abbrev m2 : Memref sig .tc .vmem S512x512 .f32 := Memref.whole cc0_scratch2
abbrev m3 : Memref sig .tc .vmem S1x512 .f32 := Memref.whole cc0_scratch3
abbrev m4 : Memref sig .tc .vmem S2x196x512 .f32 := Memref.whole cc0_scratch4

/-- The first plane of the result, as the first outgoing copy addresses it. -/
abbrev yh0 : Memref sig .tc .hbm S196x512 .f32 :=
  (my.slice (Rect.unit (s := S2x196x512) ![0, 0, 0] S1x196x512.size inb_S2x196x512_S1x196x512_0_0_0) (fun _ => rfl)).squeeze S196x512 squeezes_S1x196x512_S196x512
/-- The second plane of the result, as the second outgoing copy addresses it. -/
abbrev yh1 : Memref sig .tc .hbm S196x512 .f32 :=
  (my.slice (Rect.unit (s := S2x196x512) ![1, 0, 0] S1x196x512.size inb_S2x196x512_S1x196x512_1_0_0) (fun _ => rfl)).squeeze S196x512 squeezes_S1x196x512_S196x512

/-- The rows of `W_qkv` that make `v`. -/
abbrev rv : Rect S1536x512 := Rect.unit (s := S1536x512) ![1024, 0] S512x512.size inb_S1536x512_S512x512_1024_0
/-- The first plane of a stack of two. -/
abbrev r0 : Rect S2x196x512 := Rect.unit (s := S2x196x512) ![0, 0, 0] S1x196x512.size inb_S2x196x512_S1x196x512_0_0_0
/-- The second plane of a stack of two. -/
abbrev r1 : Rect S2x196x512 := Rect.unit (s := S2x196x512) ![1, 0, 0] S1x196x512.size inb_S2x196x512_S1x196x512_1_0_0

/-- The weights of `v`: rows 1024 to 1535 of `W_qkv`. -/
def wv (w : FVec F S1536x512 .f32) : FVec F S512x512 .f32 := fun i => w (rv.emb i)
/-- The first plane of the input. -/
def x0 (x : FVec F S2x196x512 .f32) : FVec F S1x196x512 .f32 := fun i => x (r0.emb i)
/-- The second plane of the input. -/
def x1 (x : FVec F S2x196x512 .f32) : FVec F S1x196x512 .f32 := fun i => x (r1.emb i)
/-- The plane the body stores first. -/
def p0 (x : FVec F S2x196x512 .f32) (w : FVec F S1536x512 .f32) (o : FVec F S512x512 .f32) (b : FVec F S1x512 .f32) : FVec F S1x196x512 .f32 :=
  k0_pay5 (k0_pay3 (wv w) (x0 x) (x1 x)) o b
/-- The plane the body stores second. -/
def p1 (x : FVec F S2x196x512 .f32) (w : FVec F S1536x512 .f32) (o : FVec F S512x512 .f32) (b : FVec F S1x512 .f32) : FVec F S1x196x512 .f32 :=
  k0_pay6 (k0_pay1 (wv w) (x0 x)) (k0_pay2 (wv w) (x1 x)) o b
/-- The index inside a plane. -/
def lane (i : S2x196x512.Idx) : S1x196x512.Idx := fun a => match a with
  | ⟨0, _⟩ => (0 : Fin 1)
  | ⟨1, _⟩ => (i 1 : Fin 196)
  | ⟨2, _⟩ => (i 2 : Fin 512)
/-- The whole result of the launch: the two planes, one above the other. -/
def out (x : FVec F S2x196x512 .f32) (w : FVec F S1536x512 .f32) (o : FVec F S512x512 .f32) (b : FVec F S1x512 .f32) : FVec F S2x196x512 .f32 :=
  fun i => if (i 0).val = 0 then p0 x w o b (lane i) else p1 x w o b (lane i)

theorem lane_r0 (k : S1x196x512.Idx) : lane (r0.emb k) = k := by
  funext a; apply Fin.ext
  match a with
  | ⟨0, _⟩ => have : (k 0 : Fin 1).val < 1 := (k 0 : Fin 1).isLt; show 0 = (k 0 : Fin 1).val; omega
  | ⟨1, _⟩ => show 0 + 1 * (k 1 : Fin 196).val = (k 1 : Fin 196).val; omega
  | ⟨2, _⟩ => show 0 + 1 * (k 2 : Fin 512).val = (k 2 : Fin 512).val; omega
theorem lane_r1 (k : S1x196x512.Idx) : lane (r1.emb k) = k := by
  funext a; apply Fin.ext
  match a with
  | ⟨0, _⟩ => have : (k 0 : Fin 1).val < 1 := (k 0 : Fin 1).isLt; show 0 = (k 0 : Fin 1).val; omega
  | ⟨1, _⟩ => show 0 + 1 * (k 1 : Fin 196).val = (k 1 : Fin 196).val; omega
  | ⟨2, _⟩ => show 0 + 1 * (k 2 : Fin 512).val = (k 2 : Fin 512).val; omega
/-- The first plane of the result is what the body stores first. -/
theorem out_r0 (x : FVec F S2x196x512 .f32) (w o b) (k : S1x196x512.Idx) : out x w o b (r0.emb k) = p0 x w o b k := by
  have h : ((r0.emb k) 0).val = 0 := by
    have : (k 0 : Fin 1).val < 1 := (k 0 : Fin 1).isLt; show 0 + 1 * (k 0 : Fin 1).val = 0; omega
  unfold out; rw [if_pos h, lane_r0]
/-- The second plane of the result is what the body stores second. -/
theorem out_r1 (x : FVec F S2x196x512 .f32) (w o b) (k : S1x196x512.Idx) : out x w o b (r1.emb k) = p1 x w o b k := by
  have h : ¬ ((r1.emb k) 0).val = 0 := by
    intro h
    have h2 : 1 + 1 * (k 0 : Fin 1).val = 0 := h
    omega
  unfold out; rw [if_neg h, lane_r1]

theorem planes_disjoint : Disjoint yh0.view.set yh1.view.set := by
  rw [Memref.set_view_squeeze, Memref.set_view_squeeze]
  exact View.disjoint_slice_of_disj my.view r0 r1 (by decide)
theorem planes_cover : yh0.view.set ∪ yh1.view.set = Finset.univ := by
  rw [Memref.set_view_squeeze, Memref.set_view_squeeze]
  refine Finset.eq_univ_of_forall fun (i : S2x196x512.Idx) => ?_
  have hi : (i 0 : Fin 2).val = 0 ∨ (i 0 : Fin 2).val = 1 := by
    have h2 : (i 0 : Fin 2).val < 2 := (i 0 : Fin 2).isLt
    omega
  rcases hi with hi | hi
  · refine Finset.mem_union_left _ (Finset.mem_map.mpr ⟨lane i, Finset.mem_univ _, ?_⟩)
    funext a; apply Fin.ext
    match a with
    | ⟨0, _⟩ => show 0 + 1 * 0 = (i 0 : Fin 2).val; omega
    | ⟨1, _⟩ => show 0 + 1 * (i 1 : Fin 196).val = (i 1 : Fin 196).val; omega
    | ⟨2, _⟩ => show 0 + 1 * (i 2 : Fin 512).val = (i 2 : Fin 512).val; omega
  · refine Finset.mem_union_right _ (Finset.mem_map.mpr ⟨lane i, Finset.mem_univ _, ?_⟩)
    funext a; apply Fin.ext
    match a with
    | ⟨0, _⟩ => show 1 + 1 * 0 = (i 0 : Fin 2).val; omega
    | ⟨1, _⟩ => show 0 + 1 * (i 1 : Fin 196).val = (i 1 : Fin 196).val; omega
    | ⟨2, _⟩ => show 0 + 1 * (i 2 : Fin 512).val = (i 2 : Fin 512).val; omega

/-- The result held whole is its two planes held each. -/
theorem planes (c : Dev nD) (y : Held (F := F) c my) :
    pt c my y ⊣⊢ iprop((yh0.view.loc (c : Thread nD τ) ↦[yh0.view.set]{fullShare} y) ∗ (yh1.view.loc (c : Thread nD τ) ↦[yh1.view.set]{fullShare} y)) := by
  have h := pointsTo_union (ℓ := my.view.loc (c : Thread nD τ)) (q := fullShare) (f := y) (Ix := Unit) (Name := ℕ) (U := Pipeline.UD sig nD τ) (Lvl := ℕ) planes_disjoint
  rw [planes_cover] at h
  exact h

/-- What lands in the first plane, over any contents, is the result there. -/
theorem landed0 (c : Dev nD) (x : FVec F S2x196x512 .f32) (w o b) (y : Held (F := F) c my) (D : S196x512.Idx → Elt F .f32)
    (hD : ∀ j, D j = p0 x w o b (Shape.reshapeEquiv squeezes_S1x196x512_S196x512.numel_eq j)) :
    ∀ i ∈ yh0.view.set, yh0.view.writes (Elt F) y [⟨Rect.whole S196x512, D⟩] i = out x w o b i := by
  intro i hi
  obtain ⟨j, -, hj⟩ := Finset.mem_map.mp hi
  have h := View.read_writes_cons_emb (v := yh0.view) (f := y) (Rect.whole S196x512) D [] j
  rw [Rect.emb_whole_apply, View.read_apply, cast_eq, hj, hD] at h
  have e : i = r0.emb (Shape.reshapeEquiv squeezes_S1x196x512_S196x512.numel_eq j) := hj.symm
  rw [h, e, out_r0]
/-- What lands in the second plane, over any contents, is the result there. -/
theorem landed1 (c : Dev nD) (x : FVec F S2x196x512 .f32) (w o b) (y : Held (F := F) c my) (D : S196x512.Idx → Elt F .f32)
    (hD : ∀ j, D j = p1 x w o b (Shape.reshapeEquiv squeezes_S1x196x512_S196x512.numel_eq j)) :
    ∀ i ∈ yh1.view.set, yh1.view.writes (Elt F) y [⟨Rect.whole S196x512, D⟩] i = out x w o b i := by
  intro i hi
  obtain ⟨j, -, hj⟩ := Finset.mem_map.mp hi
  have h := View.read_writes_cons_emb (v := yh1.view) (f := y) (Rect.whole S196x512) D [] j
  rw [Rect.emb_whole_apply, View.read_apply, cast_eq, hj, hD] at h
  have e : i = r1.emb (Shape.reshapeEquiv squeezes_S1x196x512_S196x512.numel_eq j) := hj.symm
  rw [h, e, out_r1]
theorem load_all1 (w : FVec F S512x512 .f32) : View.readAt (Elt F) m1.view (Rect.unit ![0, 0] S512x512.size inb_S512x512_S512x512_0_0).toLoadRect w = w := by
  funext i; show w _ = w i; congr 1; funext a; apply Fin.ext
  match a with
  | ⟨0, _⟩ => show 0 + 1 * (i 0 : Fin 512).val = (i 0 : Fin 512).val; omega
  | ⟨1, _⟩ => show 0 + 1 * (i 1 : Fin 512).val = (i 1 : Fin 512).val; omega
theorem load_all2 (w : FVec F S512x512 .f32) : View.readAt (Elt F) m2.view (Rect.unit ![0, 0] S512x512.size inb_S512x512_S512x512_0_0).toLoadRect w = w := by
  funext i; show w _ = w i; congr 1; funext a; apply Fin.ext
  match a with
  | ⟨0, _⟩ => show 0 + 1 * (i 0 : Fin 512).val = (i 0 : Fin 512).val; omega
  | ⟨1, _⟩ => show 0 + 1 * (i 1 : Fin 512).val = (i 1 : Fin 512).val; omega
theorem load_all3 (w : FVec F S1x512 .f32) : View.readAt (Elt F) m3.view (Rect.unit ![0, 0] S1x512.size inb_S1x512_S1x512_0_0).toLoadRect w = w := by
  funext i; show w _ = w i; congr 1; funext a; apply Fin.ext
  match a with
  | ⟨0, _⟩ => show 0 + 1 * (i 0 : Fin 1).val = (i 0 : Fin 1).val; omega
  | ⟨1, _⟩ => show 0 + 1 * (i 1 : Fin 512).val = (i 1 : Fin 512).val; omega

/-- What the copy of plane 0 of the staging buffer reads is what was stored there last. -/
theorem stored0 (c : Dev nD) (s4 : Held (F := F) c m4) (P : FVec F S1x196x512 .f32) (L : List (View.Piece (Elt F) S2x196x512 .f32)) (j : S196x512.Idx) :
    ReadAs.same.apply (View.read (Elt F) ((m4.slice r0 (fun _ => rfl)).squeeze S196x512 squeezes_S1x196x512_S196x512).view (m4.view.writes (Elt F) s4 (⟨r0, P⟩ :: L))) j
      = P (Shape.reshapeEquiv squeezes_S1x196x512_S196x512.numel_eq j) :=
  View.read_writes_cons_emb (v := m4.view) (f := s4) r0 P L (Shape.reshapeEquiv squeezes_S1x196x512_S196x512.numel_eq j)
/-- What the copy of plane 1 of the staging buffer reads is what was stored there last. -/
theorem stored1 (c : Dev nD) (s4 : Held (F := F) c m4) (P : FVec F S1x196x512 .f32) (L : List (View.Piece (Elt F) S2x196x512 .f32)) (j : S196x512.Idx) :
    ReadAs.same.apply (View.read (Elt F) ((m4.slice r1 (fun _ => rfl)).squeeze S196x512 squeezes_S1x196x512_S196x512).view (m4.view.writes (Elt F) s4 (⟨r1, P⟩ :: L))) j
      = P (Shape.reshapeEquiv squeezes_S1x196x512_S196x512.numel_eq j) :=
  View.read_writes_cons_emb (v := m4.view) (f := s4) r1 P L (Shape.reshapeEquiv squeezes_S1x196x512_S196x512.numel_eq j)

/-- The plane 0 of the result, held after its copy landed, holds the result. -/
theorem land0 (c : Dev nD) (x : FVec F S2x196x512 .f32) (w o b) (y : Held (F := F) c my) (D : S196x512.Idx → Elt F .f32)
    (hD : ∀ j, D j = p0 x w o b (Shape.reshapeEquiv squeezes_S1x196x512_S196x512.numel_eq j)) :
    (yh0.view.loc (c : Thread nD τ) ↦[yh0.view.set]{fullShare} yh0.view.writes (Elt F) y [⟨Rect.whole S196x512, D⟩] : sProp 𝕄)
      ⊢ (yh0.view.loc (c : Thread nD τ) ↦[yh0.view.set]{fullShare} (out x w o b : Held (F := F) c my)) :=
  Entails.of_eq (pointsTo_congr (landed0 c x w o b y D hD))
/-- The plane 1 of the result, held after its copy landed, holds the result. -/
theorem land1 (c : Dev nD) (x : FVec F S2x196x512 .f32) (w o b) (y : Held (F := F) c my) (D : S196x512.Idx → Elt F .f32)
    (hD : ∀ j, D j = p1 x w o b (Shape.reshapeEquiv squeezes_S1x196x512_S196x512.numel_eq j)) :
    (yh1.view.loc (c : Thread nD τ) ↦[yh1.view.set]{fullShare} yh1.view.writes (Elt F) y [⟨Rect.whole S196x512, D⟩] : sProp 𝕄)
      ⊢ (yh1.view.loc (c : Thread nD τ) ↦[yh1.view.set]{fullShare} (out x w o b : Held (F := F) c my)) :=
  Entails.of_eq (pointsTo_congr (landed1 c x w o b y D hD))

set_option maxHeartbeats 1000000 in
theorem body_run (c : Dev nD) (t : Fin cfg0.N)
    (x : Held (F := F) c mx) (w : Held (F := F) c mw)
    (o : Held (F := F) c mo) (b : Held (F := F) c mb)
    (y : Held (F := F) c my)
    (s0 : Held (F := F) c m0) (s1 : Held (F := F) c m1)
    (s2 : Held (F := F) c m2) (s3 : Held (F := F) c m3)
    (s4 : Held (F := F) c m4) (W : Waits sig Unit) (K : PUnit → sProp 𝕄) :
    iprop(pt c mx x ∗ pt c mw w ∗ pt c mo o ∗ pt c mb b
        ∗ (yh0.view.loc (c : Thread nD τ) ↦[yh0.view.set]{fullShare} y) ∗ (yh1.view.loc (c : Thread nD τ) ↦[yh1.view.set]{fullShare} y)
        ∗ pt c m0 s0 ∗ pt c m1 s1 ∗ pt c m2 s2 ∗ pt c m3 s3 ∗ pt c m4 s4
        ∗ semVal ((c : Thread nD τ), SemLoc.dma 0) 0 ∗ semVal ((c : Thread nD τ), SemLoc.dma 1) 0
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ owes (c : Thread nD τ) 0 W
        ∗ (iprop(pt c mx x ∗ pt c mw w ∗ pt c mo o ∗ pt c mb b ∗ pt c my (out x w o b)
            ∗ (∃ f, pt c m0 f) ∗ (∃ f, pt c m1 f) ∗ (∃ f, pt c m2 f) ∗ (∃ f, pt c m3 f) ∗ (∃ f, pt c m4 f)
            ∗ semVal ((c : Thread nD τ), SemLoc.dma 0) 0 ∗ semVal ((c : Thread nD τ), SemLoc.dma 1) 0
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ (∃ W', owes (c : Thread nD τ) 0 W')) -∗ K ⟨⟩))
      ⊢ wp frame (wpE (defs₀ (F := F)) Variants.none c none) Set.univ (bodyAt0 t) K := by
  conv in bodyAt0 t =>
    unfold bodyAt0
    simp only [cc0__attn_kernel_eq_skeleton]
    unfold cc0__attn_kernel_skel
    simp only [k0_part1_eq_skeleton, k0_part2_eq_skeleton]
    unfold k0_part1_skel k0_part2_skel
  iintro ⟨Hx, Hw, Ho, Hb, Hy0, Hy1, Hs0, Hs1, Hs2, Hs3, Hs4, Hq0, Hq1, Hq2, Hq3, Hq4, Hq5, HW, Hk⟩
  sl_exec
  sl_step
  have ew : (View.write (Elt F) (Memref.whole cc0_scratch1).view s1 (body_run.sl.dma0_1 c w) Finset.univ) = wv w := View.write_whole_univ _ _ _
  have ex : (View.write (Elt F) (Memref.whole cc0_scratch0).view s0 (body_run.sl.dma0 c x) Finset.univ) = x := View.write_whole_univ _ _ _
  have eo : (View.write (Elt F) (Memref.whole cc0_scratch2).view s2 (body_run.sl.dma0_2 c o) Finset.univ) = o := View.write_whole_univ _ _ _
  have eb : (View.write (Elt F) (Memref.whole cc0_scratch3).view s3 (body_run.sl.dma0_3 c b) Finset.univ) = b := View.write_whole_univ _ _ _
  have h0 : ∀ j, body_run.sl.dma7 c x w o b s0 s1 s2 s3 s4 j = p0 x w o b (Shape.reshapeEquiv squeezes_S1x196x512_S196x512.numel_eq j) := by
    intro j
    unfold body_run.sl.dma7 body_run.sl.Hs4_1
    rw [ew, ex, eo, eb, load_all1, load_all2, load_all3]
    exact stored0 c s4 _ _ j
  have h1 : ∀ j, body_run.sl.dma9 c x w o b s0 s1 s2 s3 s4 j = p1 x w o b (Shape.reshapeEquiv squeezes_S1x196x512_S196x512.numel_eq j) := by
    intro j
    unfold body_run.sl.dma9 body_run.sl.Hs4_2
    rw [ew, ex, eo, eb, load_all1, load_all2, load_all3]
    exact stored1 c s4 _ _ j
  iapply Hk
  isplitl [Hx]; iexact Hx
  isplitl [Hw]; iexact Hw
  isplitl [Ho]; iexact Ho
  isplitl [Hb]; iexact Hb
  isplitl [Hy0 Hy1]
  · iapply (planes c _).2
    isplitl [Hy0]
    · iapply (land0 c x w o b y _ h0); iexact Hy0
    · iapply (land1 c x w o b y _ h1); iexact Hy1
  isplitl [Hs0]; iexists _; iexact Hs0
  isplitl [Hs1]; iexists _; iexact Hs1
  isplitl [Hs2]; iexists _; iexact Hs2
  isplitl [Hs3]; iexists _; iexact Hs3
  isplitl [Hs4]; iexists _; iexact Hs4
  isplitl [Hq0]; iexact Hq0
  isplitl [Hq1]; iexact Hq1
  isplitl [Hq2]; iexact Hq2
  isplitl [Hq3]; iexact Hq3
  isplitl [Hq4]; iexact Hq4
  isplitl [Hq5]; iexact Hq5
  iexists _; iexact HW

end Cert.KernelIdeal.Hand

end
-- ==== Proof.Run.lean ====
/- The idealized kernel's run as a whole: the launch's body between the host lines before and after it. The claim here is
   that the program ends, leaves its five arguments as they were and every counter at zero, and that its result holds the two
   planes of `out` (Body.lean) read off the arguments. -/
module

public import proofs.«01_k».proof.Proof.Body
public import proofs.«01_k».proof.Proof.Gen.KernelIdeal.Frame
public import Idealize.ShloMosaic.Lib.Pipeline.FrameSuffixV

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The six transfer counters the body uses. -/
abbrev cells : Fin 6 → SemLoc sig :=
  fun j => (![SemLoc.dma 0, SemLoc.dma 1, SemLoc.dma 2, SemLoc.dma 3, SemLoc.dma 4, SemLoc.dma 5] : Fin 6 → SemLoc sig) j
theorem cells_facts : Pipeline.OwnSemFacts (cfg0.spec) cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0) := by
  rw [Pipeline.ownSems0_eq_of_list c cells [0, 1, 2, 3, 4, 5] (by decide) (by decide)]; rfl

/-- The arrays the body only reads. -/
def reads : Finset (Ref sig .tc) := {main_v0, main_arg2, main_arg3, main_v1}
theorem reads_sub : reads ⊆ Pipeline.restRefs sig (cfg0.spec) := by decide
/-- The array the body writes. -/
def writes : Finset (Ref sig .tc) := {main_v2}
theorem writes_sub : writes ⊆ Pipeline.restRefs sig (cfg0.spec) \ reads := by decide

theorem reads_eq (c : Dev nD) :
    (bigSep reads (fun b => ((c : Thread nD τ).loc b) ↦{fullShare} V m c b) : sProp 𝕄)
      = iprop(pt c mx (V m c main_v0) ∗ pt c mw (V m c main_arg2) ∗ pt c mo (V m c main_arg3) ∗ pt c mb (V m c main_v1)) := by
  rw [BI.bigSep_eq_bigSepL_of_eq [main_v0, main_arg2, main_arg3, main_v1] (by decide) (by decide)]; rfl
theorem writes_eq (c : Dev nD) (g : (b : Ref sig .tc) → Buf (Elt F) ((c : Thread nD τ).loc b)) :
    (bigSep writes (fun b => ((c : Thread nD τ).loc b) ↦{fullShare} g b) : sProp 𝕄) = pt c my (g main_v2) := by
  rw [BI.bigSep_eq_bigSepL_of_eq [main_v2] (by decide) (by decide)]; rfl

/-- What the launch leaves in its result, from the arrays as the launch finds them. -/
def left (c : Dev nD) : FVec F S2x196x512 .f32 := out (V m c main_v0) (V m c main_arg2) (V m c main_arg3) (V m c main_v1)
/-- The arrays after the launch: its result at `left`. -/
def G (c : Dev nD) (b : Ref sig .tc) : Buf (Elt F) ((c : Thread nD τ).loc b) := Function.update (V m c) main_v2 (left m c) b
theorem G_v2 (c : Dev nD) : G m c main_v2 = left m c := by unfold G; exact Function.update_self ..
/-- The arrays before the launch's one point and after it. -/
def at_ (n : ℕ) (c : Dev nD) (b : Ref sig .tc) : Buf (Elt F) ((c : Thread nD τ).loc b) := if n = 0 then V m c b else G m c b

/-- The launch's invariant: scratch and counters, the arrays read, and the result before or after. -/
def inv (n : ℕ) (c : Dev nD) : sProp 𝕄 := Pipeline.ΦDRV cells (cfg0.spec) reads writes (V m) (at_ m n) c

/-- The launch's proof data: no window, the invariant, nothing owed. -/
def dats (_ : Fin 1) (c : Dev nD) : Dat τ (Elt F) Unit ℕ (Pipeline.UD sig nD τ) ℕ cfg0 c where
  A w := V m c (Pipeline.arrRef (cfg0.spec) w)
  after w t := w.elim0
  Φ t := inv m t.val c
  q _ := fullShare
  owed _ := 0

theorem inv_eq (n : ℕ) (c : Dev nD) :
    inv m n c = iprop(iprop((∃ f, pt c m0 f) ∗ (∃ f, pt c m1 f) ∗ (∃ f, pt c m2 f) ∗ (∃ f, pt c m3 f) ∗ (∃ f, pt c m4 f))
      ∗ iprop(semVal ((c : Thread nD τ), SemLoc.dma 0) 0 ∗ semVal ((c : Thread nD τ), SemLoc.dma 1) 0
          ∗ semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0)
      ∗ iprop(pt c mx (V m c main_v0) ∗ pt c mw (V m c main_arg2) ∗ pt c mo (V m c main_arg3) ∗ pt c mb (V m c main_v1))
      ∗ pt c my (at_ m n c main_v2)) := by
  unfold inv Pipeline.ΦDRV
  rw [scopedRest0_eq, cells_eq, reads_eq, writes_eq]

def bodyPre (c : Dev nD) (t : Fin cfg0.N) : sProp 𝕄 := iprop((dats m 0 c).Φ t.castSucc ∗ (dats m 0 c).owesAt () t.castSucc ∗ BIBase.emp)
def bodyPost (c : Dev nD) (t : Fin cfg0.N) : sProp 𝕄 := iprop((dats m 0 c).Φ t.succ ∗ (dats m 0 c).owesAt () t.succ ∗ BIBase.emp)

/-- The body takes the invariant before to the invariant after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  have ht : t.val = 0 := by have := t.isLt; have hN : cfg0.N = 1 := N_0; omega
  have e0 : (dats m 0 c).Φ t.castSucc = inv m 0 c := by show inv m t.val c = _; rw [ht]
  have e1 : (dats m 0 c).Φ t.succ = inv m 1 c := by show inv m (t.val + 1) c = _; rw [ht]
  rw [e0, e1, inv_eq, inv_eq, show at_ m 1 c main_v2 = left m c from (if_neg (by decide)).trans (G_v2 m c)]
  unfold Dat.owesAt Pipeline.owesWithin
  rw [show (dats m 0 c).owed t.castSucc = 0 from rfl, show (dats m 0 c).owed t.succ = 0 from rfl]
  iintro ⟨⟨⟨⟨%f0, H0⟩, ⟨%f1, H1⟩, ⟨%f2, H2⟩, ⟨%f3, H3⟩, ⟨%f4, H4⟩⟩, ⟨Hq0, Hq1, Hq2, Hq3, Hq4, Hq5⟩, ⟨Hx, Hw, Ho, Hb⟩, Hy⟩, ⟨%W, -, HW⟩, -⟩
  iapply (body_run c t (V m c main_v0) (V m c main_arg2) (V m c main_arg3) (V m c main_v1) (at_ m 0 c main_v2) f0 f1 f2 f3 f4 W _)
  ihave Hyy : iprop((yh0.view.loc (c : Thread nD τ) ↦[yh0.view.set]{fullShare} (at_ m 0 c main_v2 : Held (F := F) c my)) ∗ (yh1.view.loc (c : Thread nD τ) ↦[yh1.view.set]{fullShare} (at_ m 0 c main_v2 : Held (F := F) c my))) $$ [Hy]
  · iapply (planes c _).1; iexact Hy
  icases Hyy with ⟨Hy0, Hy1⟩
  isplitl [Hx]; · iexact Hx
  isplitl [Hw]; · iexact Hw
  isplitl [Ho]; · iexact Ho
  isplitl [Hb]; · iexact Hb
  isplitl [Hy0]; · iexact Hy0
  isplitl [Hy1]; · iexact Hy1
  isplitl [H0]; · iexact H0
  isplitl [H1]; · iexact H1
  isplitl [H2]; · iexact H2
  isplitl [H3]; · iexact H3
  isplitl [H4]; · iexact H4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [HW]; · iexact HW
  iintro ⟨Hx, Hw, Ho, Hb, Hy, H0, H1, H2, H3, H4, Hq0, Hq1, Hq2, Hq3, Hq4, Hq5, ⟨%W', HW⟩⟩
  isplitl [Hx Hw Ho Hb Hy H0 H1 H2 H3 H4 Hq0 Hq1 Hq2 Hq3 Hq4 Hq5]
  · isplitl [H0 H1 H2 H3 H4]
    · isplitl [H0]; · iexact H0
      isplitl [H1]; · iexact H1
      isplitl [H2]; · iexact H2
      isplitl [H3]; · iexact H3
      iexact H4
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hx Hw Ho Hb]
    · isplitl [Hx]; · iexact Hx
      isplitl [Hw]; · iexact Hw
      isplitl [Ho]; · iexact Ho
      iexact Hb
    iexact Hy
  isplitl [HW]
  · iexists W'; isplitr; · ipureintro; exact fun _ _ => Or.inl trivial
    iexact HW
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_body m c t) rfl .rfl fun _ => .rfl

/-- The program is the host lines before, the launch, the host line after. -/
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The arrays when the program ends: the host line after the launch over the arrays the launch leaves. -/
def endsAt (c : Dev nD) : Valuation τ sig (Elt F) :=
  StableHlo.after (List.flatten [hostOps1])
    (Pipeline.withArrays (cfg0.spec) c (Pipeline.withR (V0 m c) writes c (G m c)) fun w => (dats m 0 c).arrAt w cfg0.N)

set_option backward.isDefEq.respectTransparency.types false in
theorem run_main : θ_run defs (onTc (τ := τ) (main (F := F))) (s₀ m ρ)
    (fun r => (∀ c : Dev nD, ∀ b ∈ Pipeline.restRefs sig (cfg0.spec), r.2.mem ((c.tc : Thread nD τ).loc b) = endsAt m c (Proc.devRef .tc b)) ∧ r.2.sem = fun _ => 0) :=
  Pipeline.θ_run_frame_dmaR_aroundV cfgs (dats m) (0 : Fin 1) launch0 cells defs₀ Variants.none cells_facts reads writes reads_sub writes_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmainD m) (hA := fun c w => w.elim0)
    (hin := fun _ => .rfl) (hout := fun _ => .rfl)
    (Q' := _) (hQ' := fun r h => ⟨fun c => (h.1 c).2, h.2⟩)

/-- An array no line writes and the launch does not write ends as it started. -/
theorem endsAt_arg (c : Dev nD) (b : Ref sig .tc) (h3 : b ≠ main_v3) (h2 : b ∉ writes) (ha : ∀ w, Pipeline.arrRef (cfg0.spec) w ≠ b) :
    endsAt m c (Proc.devRef .tc b) = V m c b := by
  unfold endsAt
  rw [StableHlo.after_of_forall_not_mem (b := Proc.devRef .tc b) _ _ (by
      intro op hop
      simp only [hostOps1, List.flatten_cons, List.flatten_nil, List.append_nil, List.mem_singleton] at hop
      subst hop
      rw [StableHlo.unary_writes, Finset.mem_singleton]
      exact StableHlo.devRef_ne_of_ne h3),
    Pipeline.withArrays_of_ne _ c _ _ b ha]
  exact Pipeline.withR_of_not_mem (V0 m c) writes c (G m c) b h2

/-- The result ends at what the launch left, under one more axis of size one. -/
theorem endsAt_v3 (c : Dev nD) :
    endsAt m c (Proc.devRef .tc main_v3)
      = (broadcastInDim S1x2x196x512 ![1, 2, 3] bcast_S2x196x512_S1x2x196x512_1_2_3 (left m c) : FVec F S1x2x196x512 .f32) := by
  have hv : (Pipeline.withArrays (cfg0.spec) c (Pipeline.withR (V0 m c) writes c (G m c)) fun w => (dats m 0 c).arrAt w cfg0.N) (Proc.devRef .tc main_v2) = left m c := by
    rw [Pipeline.withArrays_of_ne _ c _ _ main_v2 (by exact (by decide : ∀ w, Pipeline.arrRef (cfg0.spec) w ≠ main_v2))]
    exact (Pipeline.withR_of_mem (V0 m c) writes c (G m c) main_v2 (by decide)).trans (G_v2 m c)
  unfold endsAt
  rw [← hv]
  rfl

/-- The input as the launch finds it: the same numbers under two axes fewer. -/
theorem V_v0 (c : Dev nD) : V m c main_v0
    = (shapeCast S2x196x512 (m ((c : Thread nD τ).loc main_arg0) : FVec F S1x2x196x512 .f32) shapeCasts_S1x2x196x512_S2x196x512 : FVec F S2x196x512 .f32) := rfl
/-- The bias as the launch finds it: one row. -/
theorem V_v1 (c : Dev nD) : V m c main_v1
    = (shapeCast S1x512 (m ((c : Thread nD τ).loc main_arg4) : FVec F S512 .f32) shapeCasts_S512_S1x512 : FVec F S1x512 .f32) := rfl

/-- The run: the result is what the launch left, the five arguments end as they were, every counter ends at zero. -/
theorem run : θ_run defs (onTc (τ := τ) (main (F := F))) ⟨m, fun _ => 0, ρ⟩ (fun r => (∀ c : Dev nD,
      r.2.mem ((c.tc : Thread nD τ).loc main_v3)
          = (broadcastInDim S1x2x196x512 ![1, 2, 3] bcast_S2x196x512_S1x2x196x512_1_2_3 (left m c) : FVec F S1x2x196x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c main_v3 (Pipeline.mem_restRefs_of main_v3 (by decide) (by decide))).trans (endsAt_v3 m c),
     ((h.1 c main_arg0 (Pipeline.mem_restRefs_of main_arg0 (by decide) (by decide))).trans (endsAt_arg m c main_arg0 (by decide) (by decide) (by decide))).trans (V_main_arg0 m c),
     ((h.1 c main_arg1 (Pipeline.mem_restRefs_of main_arg1 (by decide) (by decide))).trans (endsAt_arg m c main_arg1 (by decide) (by decide) (by decide))).trans (V_main_arg1 m c),
     ((h.1 c main_arg2 (Pipeline.mem_restRefs_of main_arg2 (by decide) (by decide))).trans (endsAt_arg m c main_arg2 (by decide) (by decide) (by decide))).trans (V_main_arg2 m c),
     ((h.1 c main_arg3 (Pipeline.mem_restRefs_of main_arg3 (by decide) (by decide))).trans (endsAt_arg m c main_arg3 (by decide) (by decide) (by decide))).trans (V_main_arg3 m c),
     ((h.1 c main_arg4 (Pipeline.mem_restRefs_of main_arg4 (by decide) (by decide))).trans (endsAt_arg m c main_arg4 (by decide) (by decide) (by decide))).trans (V_main_arg4 m c)⟩, h.2⟩)
    (run_main m ρ)

end Cert.KernelIdeal.Hand

end
-- ==== Proof.Scalars.lean ====
/-
  Facts about single extended reals: the constants the programs hold, sums of products of reals, the softmax of a row
  whose entries are one real number, and seven equal shares of a value.
-/
module

public import Idealize.ShloMosaic.PureOps.Ideal
public import Idealize.ShloMosaic.PureOps.Ideal.Laws

@[expose] public section

noncomputable section

namespace Cert.Scalars

open Idealize.ShloMosaic

/-- The word of minus infinity. -/
theorem bits_bot : Ideal.ofBits .f32 0xFF800000#32 = ⊥ := by simp [Ideal.ofBits, Ideal.ieee]
/-- The word of plus infinity. -/
theorem bits_top : Ideal.ofBits .f32 0x7F800000#32 = ⊤ := by simp [Ideal.ofBits, Ideal.ieee]
/-- The word of 1/8. -/
theorem bits_eighth : Ideal.ofBits .f32 0x3E000000#32 = ((1 / 8 : ℝ) : EReal) := by
  simp [Ideal.ofBits, Ideal.ieee, -EReal.coe_mul]; norm_num
/-- The word of 2. -/
theorem bits_two : Ideal.ofBits .f32 0x40000000#32 = ((2 : ℝ) : EReal) := by
  simp [Ideal.ofBits, Ideal.ieee, -EReal.coe_mul]; norm_num

/-- An extended real that is a real number. -/
def IsReal (a : EReal) : Prop := ∃ r : ℝ, a = (r : EReal)

/-- A product of reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih =>
    obtain ⟨r, hr⟩ := h i
    obtain ⟨t, ht⟩ := ih
    exact ⟨r + t, by rw [Finset.sum_insert hi, hr, ht, EReal.coe_add]⟩

/-- What lies strictly below infinity in absolute value is real. -/
theorem IsReal.of_abs {a : EReal} (h : max a (-a) < ⊤) : IsReal a := by
  induction a with
  | bot => simp at h
  | top => simp at h
  | coe r => exact ⟨r, rfl⟩

/-- The greatest of several copies of one value is that value. -/
theorem fold_max_same {n : ℕ} (hn : 0 < n) (a : EReal) :
    Finset.fold max ⊥ (fun _ : Fin n => a) Finset.univ = a := by
  apply le_antisymm
  · rw [Finset.fold_max_le]
    exact ⟨bot_le, fun _ _ => le_refl a⟩
  · rw [Finset.le_fold_max]
    exact Or.inr ⟨⟨0, hn⟩, Finset.mem_univ _, le_refl a⟩

/-- The exponential of a real less itself is one. -/
theorem exp_sub_self {a : EReal} (h : IsReal a) : Ideal.exp (a - a) = 1 := by
  obtain ⟨r, rfl⟩ := h
  rw [← EReal.coe_sub, sub_self, Ideal.exp_coe, Real.exp_zero, EReal.coe_one]

/-- One part of seven. -/
theorem one_div_seven : Ideal.div 1 (∑ _t : Fin 7, (1 : EReal)) = ((1 / 7 : ℝ) : EReal) := by
  have h : (∑ _t : Fin 7, (1 : EReal)) = ((7 : ℝ) : EReal) := by
    rw [← EReal.coe_one, Fin.sum_univ_seven]
    simp only [← EReal.coe_add]
    norm_num
  rw [h, Ideal.div_coe (by norm_num), one_mul]

/-- Seven sevenths of any extended real are that extended real. -/
theorem seven_shares (v : EReal) : ∑ _t : Fin 7, ((1 / 7 : ℝ) : EReal) * v = v := by
  rw [Fin.sum_univ_seven]
  induction v with
  | bot => rw [EReal.coe_mul_bot_of_pos (by norm_num)]; simp
  | top => rw [EReal.coe_mul_top_of_pos (by norm_num)]; simp
  | coe r =>
    simp only [← EReal.coe_mul, ← EReal.coe_add]
    congr 1
    ring

/-- The gelu of one extended real: `a/2 · (1 + erf (a · 1/√2))`. -/
def gelu1 (a : EReal) : EReal :=
  Ideal.ofBits .f32 0x3F000000#32 * a * (1 + Ideal.erf (a * (((Real.sqrt 2)⁻¹ : ℝ) : EReal)))

/-- Dividing by the root of 2 is multiplying by its inverse. -/
theorem div_sqrt_two (a : EReal) :
    Ideal.div a (Ideal.sqrt (Ideal.ofBits .f32 0x40000000#32)) = a * (((Real.sqrt 2)⁻¹ : ℝ) : EReal) := by
  rw [bits_two, Ideal.sqrt_coe, if_neg (by norm_num), Ideal.div_coe (by positivity), one_div]

end Cert.Scalars

end
-- ==== Proof.Finite.lean ====
/-
  The precondition: its side conditions, and what it says — the input and the weights of the queries and keys are real.
-/
module

public import proofs.«01_k».proof.Pre_finite_scores
public import proofs.«01_k».proof.Proof.Scalars
public import Idealize.ShloMosaic.Lib.ReduceAll
public import Idealize.ShloMosaic.Lib.Pointwise

@[expose] public section

noncomputable section

namespace Cert.Pre_finite_scores.Hand

open Cert.Pre_finite_scores Cert.Scalars Idealize.ShloMosaic

/-- The side conditions of the precondition's operations. -/
instance facts : Facts := ⟨by decide, by decide, by decide, by decide, by decide, by decide⟩

/-- A comparison of an absolute value with infinity that holds says that the value is real. -/
theorem real_of_cmp {a : EReal} (h : Ideal.cmp .olt (max a (-a)) (Ideal.ofBits .f32 0x7F800000#32) = 1#1) : IsReal a := by
  rw [bits_top] at h
  have h' : BitVec.ofBool (decide (max a (-a) < ⊤)) = 1#1 := h
  by_cases hlt : max a (-a) < ⊤
  · exact IsReal.of_abs hlt
  · rw [decide_eq_false hlt] at h'
    exact absurd h' (by decide)

/-- Under the precondition every entry of the input is real, and so is every entry of the first 1024 rows of the weights. -/
theorem real (x : FVec Ideal S1x2x196x512 .f32) (g : FVec Ideal S1x2x8x196x196 .f32) (w : FVec Ideal S1536x512 .f32)
    (o : FVec Ideal S512x512 .f32) (b : FVec Ideal S512 .f32) (h : fn (F := Ideal) x g w o b = fun _ => 1#1) :
    (∀ i, IsReal (x i)) ∧ ∀ (c : Fin 1536) (k : Fin 512), c.val < 1024 → IsReal (w (ix2 c k)) := by
  have h0 := congrFun h ix0
  unfold fn at h0
  obtain ⟨h1, h2⟩ := IntOp.andi_eq_one.1 h0
  have : Subsingleton S_.Idx := ⟨fun a b => funext fun i => i.elim0⟩
  refine ⟨fun i => ?_, fun c k hc => ?_⟩
  · have e := Host.reduce_andi_all _ _ _ _ _ h1 i
    exact real_of_cmp e
  · have e := Host.reduce_andi_all _ _ _ _ _ h2 (ix2 ⟨c.val, hc⟩ k)
    have e' : IsReal (extractStridedSlice S1024x512 ![0, 0] w facts.slices_S1536x512_S1024x512_0_0 (ix2 ⟨c.val, hc⟩ k)) :=
      real_of_cmp e
    pointwise at e'
    exact e'

end Cert.Pre_finite_scores.Hand

end
-- ==== Proof.Planes.lean ====
/-
  The idealized kernel at an index: the gelu of each plane's product with the value weights, the two interleavings of
  the heads, the output projection, and the result of the launch.
-/
module

public import proofs.«01_k».proof.Proof.Body
public import proofs.«01_k».proof.Proof.Scalars
public import Idealize.ShloMosaic.Lib.Pointwise

@[expose] public section

noncomputable section

namespace Cert.KernelIdeal.Hand

open Cert.KernelIdeal Cert.KernelIdeal.Gen Cert.Scalars Idealize.ShloMosaic

/-- The named constant is the inverse of the root of 2. -/
theorem named_inv : (Named.named κ "inv_sqrt_2" 0x3F3504F3#32 : Ideal .f32) = (((Real.sqrt 2)⁻¹ : ℝ) : EReal) :=
  IdealRules.named_const.ideal_named_scalar _ _ _ _ rfl

/-- The first plane's hidden values are the gelu of its product with the value weights. -/
theorem pay1_apply (w : FVec Ideal S512x512 .f32) (x : FVec Ideal S1x196x512 .f32) (n : Fin 196) (c : Fin 512) :
    k0_pay1 (F := Ideal) w x (ix2 n c) = gelu1 (∑ k : Fin 512, x (ix3 0 n k) * w (ix2 c k)) := by
  pointwise [k0_pay1, dot_S196x512_S512x512_S196x512_1_1_0_0_n_n]
  rw [named_inv]
  rfl

/-- The second plane's hidden values are the same of the second plane. -/
theorem pay2_apply (w : FVec Ideal S512x512 .f32) (x : FVec Ideal S1x196x512 .f32) (n : Fin 196) (c : Fin 512) :
    k0_pay2 (F := Ideal) w x (ix2 n c) = gelu1 (∑ k : Fin 512, x (ix3 0 n k) * w (ix2 c k)) := by
  pointwise [k0_pay2, dot_S196x512_S512x512_S196x512_1_1_0_0_n_n]
  rw [named_inv]
  rfl

/-- The output projection of the first plane, entry by entry. -/
theorem pay5_apply (u : FVec Ideal S196x512 .f32) (o : FVec Ideal S512x512 .f32) (b : FVec Ideal S1x512 .f32) (n : Fin 196) (j : Fin 512) :
    k0_pay5 u o b (ix3 0 n j) = (∑ e : Fin 512, u (ix2 n e) * o (ix2 j e)) + b (ix2 0 j) := by
  pointwise [k0_pay5, k0_pay4, dot_S196x512_S512x512_S196x512_1_1_0_0_n_n]

/-- Eight blocks of 64 columns side by side: column `e` is column `e % 64` of block `e / 64`. -/
theorem gather_apply (f : Fin 8 → FVec Ideal S196x64 .f32) (n : Fin 196) (e : Fin 512) :
    concatenate S196x512 1 [⟨S196x64, f 0⟩, ⟨S196x64, f 1⟩, ⟨S196x64, f 2⟩, ⟨S196x64, f 3⟩, ⟨S196x64, f 4⟩, ⟨S196x64, f 5⟩,
        ⟨S196x64, f 6⟩, ⟨S196x64, f 7⟩]
        concatenates_S196x64_S196x64_S196x64_S196x64_S196x64_S196x64_S196x64_S196x64_S196x512_d1 (ix2 n e)
      = f ⟨e.val / 64, by omega⟩ (ix2 n ⟨e.val % 64, by omega⟩) :=
  concatenate_ofFn_apply (1 : Fin S196x512.rank) f
    concatenates_S196x64_S196x64_S196x64_S196x64_S196x64_S196x64_S196x64_S196x64_S196x512_d1 rfl 64 rfl (ix2 n e) _ rfl _ rfl (fun b hb => match b with
    | ⟨0, _⟩ => rfl
    | ⟨1, _⟩ => absurd rfl hb)

/-- A block of 64 columns from column `c` on. -/
theorem slice_apply (y : FVec Ideal S196x512 .f32) (c : Nat) (h : S196x512.Slices ![0, c] S196x64) (n : Fin 196) (r : Fin 64) (d : Fin 512) (hd : d.val = c + r.val) :
    extractStridedSlice S196x64 ![0, c] y h (ix2 n r) = y (ix2 n d) := by
  refine extractStridedSlice_apply _ y h (ix2 n r) (ix2 n d) fun a => ?_
  match a with
  | ⟨0, _⟩ => exact (Nat.zero_add n.val).symm
  | ⟨1, _⟩ => exact hd

/-- Block `k` of the even heads: 64 columns of the first array for `k < 4`, of the second after. -/
theorem even_apply (y0 y1 : FVec Ideal S196x512 .f32) (n : Fin 196) (k : Fin 8) (r : Fin 64) :
    (![extractStridedSlice S196x64 ![0, 0] y0 slices_S196x512_o0_0_S196x64,
       extractStridedSlice S196x64 ![0, 128] y0 slices_S196x512_o0_128_S196x64,
       extractStridedSlice S196x64 ![0, 256] y0 slices_S196x512_o0_256_S196x64,
       extractStridedSlice S196x64 ![0, 384] y0 slices_S196x512_o0_384_S196x64,
       extractStridedSlice S196x64 ![0, 0] y1 slices_S196x512_o0_0_S196x64,
       extractStridedSlice S196x64 ![0, 128] y1 slices_S196x512_o0_128_S196x64,
       extractStridedSlice S196x64 ![0, 256] y1 slices_S196x512_o0_256_S196x64,
       extractStridedSlice S196x64 ![0, 384] y1 slices_S196x512_o0_384_S196x64] : Fin 8 → FVec Ideal S196x64 .f32) k (ix2 n r)
      = (if k.val < 4 then y0 else y1) (ix2 n ⟨k.val * 2 % 8 * 64 + r.val, by omega⟩) := match k with
  | ⟨0, _⟩ => (slice_apply y0 0 slices_S196x512_o0_0_S196x64 n r _ (by dsimp only)).trans (congrFun (if_pos (by decide : (0 < 4))).symm _)
  | ⟨1, _⟩ => (slice_apply y0 128 slices_S196x512_o0_128_S196x64 n r _ (by dsimp only)).trans (congrFun (if_pos (by decide : (1 < 4))).symm _)
  | ⟨2, _⟩ => (slice_apply y0 256 slices_S196x512_o0_256_S196x64 n r _ (by dsimp only)).trans (congrFun (if_pos (by decide : (2 < 4))).symm _)
  | ⟨3, _⟩ => (slice_apply y0 384 slices_S196x512_o0_384_S196x64 n r _ (by dsimp only)).trans (congrFun (if_pos (by decide : (3 < 4))).symm _)
  | ⟨4, _⟩ => (slice_apply y1 0 slices_S196x512_o0_0_S196x64 n r _ (by dsimp only)).trans (congrFun (if_neg (by decide : ¬ (4 < 4))).symm _)
  | ⟨5, _⟩ => (slice_apply y1 128 slices_S196x512_o0_128_S196x64 n r _ (by dsimp only)).trans (congrFun (if_neg (by decide : ¬ (5 < 4))).symm _)
  | ⟨6, _⟩ => (slice_apply y1 256 slices_S196x512_o0_256_S196x64 n r _ (by dsimp only)).trans (congrFun (if_neg (by decide : ¬ (6 < 4))).symm _)
  | ⟨7, _⟩ => (slice_apply y1 384 slices_S196x512_o0_384_S196x64 n r _ (by dsimp only)).trans (congrFun (if_neg (by decide : ¬ (7 < 4))).symm _)

/-- Block `k` of the odd heads: 64 columns of the first array for `k < 4`, of the second after. -/
theorem odd_apply (y0 y1 : FVec Ideal S196x512 .f32) (n : Fin 196) (k : Fin 8) (r : Fin 64) :
    (![extractStridedSlice S196x64 ![0, 64] y0 slices_S196x512_o0_64_S196x64,
       extractStridedSlice S196x64 ![0, 192] y0 slices_S196x512_o0_192_S196x64,
       extractStridedSlice S196x64 ![0, 320] y0 slices_S196x512_o0_320_S196x64,
       extractStridedSlice S196x64 ![0, 448] y0 slices_S196x512_o0_448_S196x64,
       extractStridedSlice S196x64 ![0, 64] y1 slices_S196x512_o0_64_S196x64,
       extractStridedSlice S196x64 ![0, 192] y1 slices_S196x512_o0_192_S196x64,
       extractStridedSlice S196x64 ![0, 320] y1 slices_S196x512_o0_320_S196x64,
       extractStridedSlice S196x64 ![0, 448] y1 slices_S196x512_o0_448_S196x64] : Fin 8 → FVec Ideal S196x64 .f32) k (ix2 n r)
      = (if k.val < 4 then y0 else y1) (ix2 n ⟨(k.val * 2 + 1) % 8 * 64 + r.val, by omega⟩) := match k with
  | ⟨0, _⟩ => (slice_apply y0 64 slices_S196x512_o0_64_S196x64 n r _ (by dsimp only)).trans (congrFun (if_pos (by decide : (0 < 4))).symm _)
  | ⟨1, _⟩ => (slice_apply y0 192 slices_S196x512_o0_192_S196x64 n r _ (by dsimp only)).trans (congrFun (if_pos (by decide : (1 < 4))).symm _)
  | ⟨2, _⟩ => (slice_apply y0 320 slices_S196x512_o0_320_S196x64 n r _ (by dsimp only)).trans (congrFun (if_pos (by decide : (2 < 4))).symm _)
  | ⟨3, _⟩ => (slice_apply y0 448 slices_S196x512_o0_448_S196x64 n r _ (by dsimp only)).trans (congrFun (if_pos (by decide : (3 < 4))).symm _)
  | ⟨4, _⟩ => (slice_apply y1 64 slices_S196x512_o0_64_S196x64 n r _ (by dsimp only)).trans (congrFun (if_neg (by decide : ¬ (4 < 4))).symm _)
  | ⟨5, _⟩ => (slice_apply y1 192 slices_S196x512_o0_192_S196x64 n r _ (by dsimp only)).trans (congrFun (if_neg (by decide : ¬ (5 < 4))).symm _)
  | ⟨6, _⟩ => (slice_apply y1 320 slices_S196x512_o0_320_S196x64 n r _ (by dsimp only)).trans (congrFun (if_neg (by decide : ¬ (6 < 4))).symm _)
  | ⟨7, _⟩ => (slice_apply y1 448 slices_S196x512_o0_448_S196x64 n r _ (by dsimp only)).trans (congrFun (if_neg (by decide : ¬ (7 < 4))).symm _)

/-- The even heads of both planes side by side: column `e` is entry `e % 64` of head `2 (e / 64)`, counted over both. -/
theorem pay3_apply (w : FVec Ideal S512x512 .f32) (x y : FVec Ideal S1x196x512 .f32) (n : Fin 196) (e : Fin 512) :
    k0_pay3 (F := Ideal) w x y (ix2 n e)
      = (if e.val / 64 < 4 then k0_pay1 (F := Ideal) w x else k0_pay2 (F := Ideal) w y) (ix2 n ⟨e.val / 64 * 2 % 8 * 64 + e.val % 64, by omega⟩) :=
  (gather_apply _ n e).trans (even_apply (k0_pay1 (F := Ideal) w x) (k0_pay2 (F := Ideal) w y) n ⟨e.val / 64, by omega⟩ ⟨e.val % 64, by omega⟩)

/-- The odd heads of both planes side by side. -/
noncomputable def odd (y0 y1 : FVec Ideal S196x512 .f32) : FVec Ideal S196x512 .f32 :=
  concatenate S196x512 1 [
    ⟨S196x64, extractStridedSlice S196x64 ![0, 64] y0 slices_S196x512_o0_64_S196x64⟩,
    ⟨S196x64, extractStridedSlice S196x64 ![0, 192] y0 slices_S196x512_o0_192_S196x64⟩,
    ⟨S196x64, extractStridedSlice S196x64 ![0, 320] y0 slices_S196x512_o0_320_S196x64⟩,
    ⟨S196x64, extractStridedSlice S196x64 ![0, 448] y0 slices_S196x512_o0_448_S196x64⟩,
    ⟨S196x64, extractStridedSlice S196x64 ![0, 64] y1 slices_S196x512_o0_64_S196x64⟩,
    ⟨S196x64, extractStridedSlice S196x64 ![0, 192] y1 slices_S196x512_o0_192_S196x64⟩,
    ⟨S196x64, extractStridedSlice S196x64 ![0, 320] y1 slices_S196x512_o0_320_S196x64⟩,
    ⟨S196x64, extractStridedSlice S196x64 ![0, 448] y1 slices_S196x512_o0_448_S196x64⟩]
    concatenates_S196x64_S196x64_S196x64_S196x64_S196x64_S196x64_S196x64_S196x64_S196x512_d1

/-- Column `e` of the odd heads is entry `e % 64` of head `2 (e / 64) + 1`, counted over both planes. -/
theorem odd_at (y0 y1 : FVec Ideal S196x512 .f32) (n : Fin 196) (e : Fin 512) :
    odd y0 y1 (ix2 n e) = (if e.val / 64 < 4 then y0 else y1) (ix2 n ⟨(e.val / 64 * 2 + 1) % 8 * 64 + e.val % 64, by omega⟩) :=
  (gather_apply _ n e).trans (odd_apply y0 y1 n ⟨e.val / 64, by omega⟩ ⟨e.val % 64, by omega⟩)

/-- The second plane's output is the output projection of the odd heads. -/
theorem pay6_eq (y0 y1 : FVec Ideal S196x512 .f32) (o : FVec Ideal S512x512 .f32) (b : FVec Ideal S1x512 .f32) :
    k0_pay6 y0 y1 o b = k0_pay5 (odd y0 y1) o b := by
  unfold k0_pay6 k0_pay5 odd
  rfl

/-- The output projection of the second plane, entry by entry. -/
theorem pay6_apply (y0 y1 : FVec Ideal S196x512 .f32) (o : FVec Ideal S512x512 .f32) (b : FVec Ideal S1x512 .f32) (n : Fin 196) (j : Fin 512) :
    k0_pay6 y0 y1 o b (ix3 0 n j) = (∑ e : Fin 512, (if e.val / 64 < 4 then y0 else y1)
      (ix2 n ⟨(e.val / 64 * 2 + 1) % 8 * 64 + e.val % 64, by omega⟩) * o (ix2 j e)) + b (ix2 0 j) := by
  rw [pay6_eq, pay5_apply]
  simp only [odd_at]

/-- The result of the launch at an index: position `n` of plane `p` gathers the heads `2 (e / 64) + p`, counted over both
    planes of the input. -/
theorem out_apply (x : FVec Ideal S2x196x512 .f32) (w : FVec Ideal S1536x512 .f32) (o : FVec Ideal S512x512 .f32) (b : FVec Ideal S1x512 .f32)
    (p : Fin 2) (n : Fin 196) (j : Fin 512) :
    out x w o b (ix3 p n j)
      = (∑ e : Fin 512, gelu1 (∑ k : Fin 512, x (ix3 ⟨(e.val / 64 * 2 + p.val) / 8, by omega⟩ n k)
          * w (ix2 (n0 := 1536) (n1 := 512) ⟨1024 + ((e.val / 64 * 2 + p.val) % 8 * 64 + e.val % 64), by omega⟩ k)) * o (ix2 j e)) + b (ix2 0 j) := by
  have hl : lane (ix3 p n j) = ix3 0 n j := by
    funext a
    match a with
    | ⟨0, _⟩ => rfl
    | ⟨1, _⟩ => rfl
    | ⟨2, _⟩ => rfl
  have hw : ∀ (c k : Fin 512), wv w (ix2 c k) = w (ix2 (n0 := 1536) (n1 := 512) ⟨1024 + c.val, by omega⟩ k) := fun c k => by
    refine congrArg w (funext fun a => Fin.ext ?_)
    match a with
    | ⟨0, _⟩ => show 1024 + 1 * c.val = 1024 + c.val; omega
    | ⟨1, _⟩ => show 0 + 1 * k.val = k.val; omega
  have h0 : ∀ k : Fin 512, x0 x (ix3 0 n k) = x (ix3 0 n k) := fun k => by
    refine congrArg x (funext fun a => Fin.ext ?_)
    match a with
    | ⟨0, _⟩ => rfl
    | ⟨1, _⟩ => show 0 + 1 * n.val = n.val; omega
    | ⟨2, _⟩ => show 0 + 1 * k.val = k.val; omega
  have h1 : ∀ k : Fin 512, x1 x (ix3 0 n k) = x (ix3 1 n k) := fun k => by
    refine congrArg x (funext fun a => Fin.ext ?_)
    match a with
    | ⟨0, _⟩ => rfl
    | ⟨1, _⟩ => show 0 + 1 * n.val = n.val; omega
    | ⟨2, _⟩ => show 0 + 1 * k.val = k.val; omega
  have hg : ∀ (q : Fin 2) (e : Fin 512) (c : Fin 512), c.val = (e.val / 64 * 2 + q.val) % 8 * 64 + e.val % 64 →
      (if e.val / 64 < 4 then k0_pay1 (F := Ideal) (wv w) (x0 x) else k0_pay2 (F := Ideal) (wv w) (x1 x)) (ix2 n c)
        = gelu1 (∑ k : Fin 512, x (ix3 (n0 := 2) ⟨(e.val / 64 * 2 + q.val) / 8, by omega⟩ n k)
          * w (ix2 (n0 := 1536) (n1 := 512) ⟨1024 + ((e.val / 64 * 2 + q.val) % 8 * 64 + e.val % 64), by omega⟩ k)) := by
    intro q e c hc
    by_cases he : e.val / 64 < 4
    · rw [if_pos he, pay1_apply]
      refine congrArg gelu1 (Finset.sum_congr rfl fun k _ => ?_)
      rw [hw, h0]
      have := q.isLt
      exact congr (congrArg _ (congrArg (fun i => x (ix3 i n k)) (Fin.ext (by show 0 = (e.val / 64 * 2 + q.val) / 8; omega))))
        (congrArg (fun i => w (ix2 i k)) (Fin.ext (by show 1024 + c.val = 1024 + ((e.val / 64 * 2 + q.val) % 8 * 64 + e.val % 64); omega)))
    · rw [if_neg he, pay2_apply]
      refine congrArg gelu1 (Finset.sum_congr rfl fun k _ => ?_)
      rw [hw, h1]
      have := q.isLt
      exact congr (congrArg _ (congrArg (fun i => x (ix3 i n k)) (Fin.ext (by show 1 = (e.val / 64 * 2 + q.val) / 8; omega))))
        (congrArg (fun i => w (ix2 i k)) (Fin.ext (by show 1024 + c.val = 1024 + ((e.val / 64 * 2 + q.val) % 8 * 64 + e.val % 64); omega)))
  unfold out
  rw [hl]
  match p with
  | ⟨0, _⟩ =>
    refine (if_pos rfl).trans ?_
    rw [p0, pay5_apply]
    refine congrArg (· + _) (Finset.sum_congr rfl fun e _ => congrArg (· * _) ?_)
    rw [pay3_apply]
    exact hg _ e _ rfl
  | ⟨1, _⟩ =>
    refine (if_neg (show ¬ (1 = 0) by norm_num)).trans ?_
    rw [p1, pay6_apply]
    refine congrArg (· + _) (Finset.sum_congr rfl fun e _ => congrArg (· * _) ?_)
    exact hg _ e _ rfl

end Cert.KernelIdeal.Hand

end
-- ==== Proof.Stages.lean ====
/-
  The reference's result as a chain of named arrays: the projection, its heads, the routed keys and values, the scores,
  the softmax over the seven routed copies, the attended values, the gelu and the output projection.
-/
module

public import proofs.«01_k».proof.Proof.Gen.ReferenceIdeal.Run
public import Idealize.ShloMosaic.PureOps.Ideal

@[expose] public section

noncomputable section

namespace Cert.ReferenceIdeal.Hand

open Cert.ReferenceIdeal Cert.ReferenceIdeal.Gen Idealize.ShloMosaic Idealize.ShloMosaic.TcCoe Idealize.SL.Sem

/-- The projection of the input: queries in columns 0 to 511, keys in 512 to 1023, values in 1024 to 1535. -/
def qkv (x : FVec Ideal S1x2x196x512 .f32) (w : FVec Ideal S1536x512 .f32) : FVec Ideal S1x2x196x1536 .f32 :=
  Host.dotGeneral dot_S1x2x196x512_S512x1536_S1x2x196x1536_3_0_012_1_n_n none x
    (transpose S512x1536 [1, 0] w transposes_S1536x512_S512x1536_1_0)

/-- 512 columns as eight heads of 64. -/
def heads (y : FVec Ideal S1x2x196x512 .f32) : FVec Ideal S1x2x8x196x64 .f32 :=
  transpose S1x2x8x196x64 [0, 1, 3, 2, 4] (shapeCast S1x2x196x8x64 y shapeCasts_S1x2x196x512_S1x2x196x8x64)
    transposes_S1x2x196x8x64_S1x2x8x196x64_0_1_3_2_4

/-- The heads of the queries. -/
def qh (a : FVec Ideal S1x2x196x1536 .f32) : FVec Ideal S1x2x8x196x64 .f32 :=
  heads (extractStridedSlice S1x2x196x512 ![0, 0, 0, 0] a slices_S1x2x196x1536_S1x2x196x512_0_0_0_0)
/-- The heads of the keys. -/
def kh (a : FVec Ideal S1x2x196x1536 .f32) : FVec Ideal S1x2x8x196x64 .f32 :=
  heads (extractStridedSlice S1x2x196x512 ![0, 0, 0, 512] a slices_S1x2x196x1536_S1x2x196x512_0_0_0_512)
/-- The heads of the values. -/
def vh (a : FVec Ideal S1x2x196x1536 .f32) : FVec Ideal S1x2x8x196x64 .f32 :=
  heads (extractStridedSlice S1x2x196x512 ![0, 0, 0, 1024] a slices_S1x2x196x1536_S1x2x196x512_0_0_0_1024)

/-- The scaled queries, one row for each position of each head. -/
def q4 (q : FVec Ideal S1x2x8x196x64 .f32) : FVec Ideal S1568x2x1x64 .f32 :=
  mulf (shapeCast S1568x2x1x64 (transpose S8x196x2x64 [0, 2, 1, 3]
      (shapeCast S8x2x196x64 q shapeCasts_S1x2x8x196x64_S8x2x196x64) transposes_S8x2x196x64_S8x196x2x64_0_2_1_3)
      shapeCasts_S8x196x2x64_S1568x2x1x64)
    (broadcastInDim S1568x2x1x64 ![] bcast_S_S1568x2x1x64 (constant S_ .f32 0x3E000000#32))

/-- Keys beside values, each seven times over. -/
def kv (k v : FVec Ideal S1x2x8x196x64 .f32) : FVec Ideal S16x196x7x128 .f32 :=
  shapeCast S16x196x7x128 (broadcastInDim S1x2x8x196x7x128 ![0, 1, 2, 3, 4, 5]
      bcast_S1x2x8x196x1x128_S1x2x8x196x7x128_0_1_2_3_4_5
      (broadcastInDim S1x2x8x196x1x128 ![0, 1, 2, 3, 5] bcast_S1x2x8x196x128_S1x2x8x196x1x128_0_1_2_3_5
        (concatenate S1x2x8x196x128 4 [⟨S1x2x8x196x64, k⟩, ⟨S1x2x8x196x64, v⟩]
          concatenates_S1x2x8x196x64_S1x2x8x196x64_S1x2x8x196x128_d4)))
    shapeCasts_S1x2x8x196x7x128_S16x196x7x128

/-- The routed keys. -/
def ks (a : FVec Ideal S16x196x7x128 .f32) : FVec Ideal S1568x2x64x7 .f32 :=
  shapeCast S1568x2x64x7 (transpose S8x196x2x64x7 [0, 2, 1, 4, 3]
    (shapeCast S8x2x196x7x64 (extractStridedSlice S16x196x7x64 ![0, 0, 0, 0] a slices_S16x196x7x128_S16x196x7x64_0_0_0_0)
      shapeCasts_S16x196x7x64_S8x2x196x7x64) transposes_S8x2x196x7x64_S8x196x2x64x7_0_2_1_4_3)
    shapeCasts_S8x196x2x64x7_S1568x2x64x7
/-- The routed values. -/
def vs (a : FVec Ideal S16x196x7x128 .f32) : FVec Ideal S1568x2x7x64 .f32 :=
  shapeCast S1568x2x7x64 (transpose S8x196x2x7x64 [0, 2, 1, 3, 4]
    (shapeCast S8x2x196x7x64 (extractStridedSlice S16x196x7x64 ![0, 0, 0, 64] a slices_S16x196x7x128_S16x196x7x64_0_0_0_64)
      shapeCasts_S16x196x7x64_S8x2x196x7x64) transposes_S8x2x196x7x64_S8x196x2x7x64_0_2_1_3_4)
    shapeCasts_S8x196x2x7x64_S1568x2x7x64

/-- The scores of each query against its seven keys. -/
def scores (q : FVec Ideal S1568x2x1x64 .f32) (k : FVec Ideal S1568x2x64x7 .f32) : FVec Ideal S1568x2x1x7 .f32 :=
  Host.dotGeneral dot_S1568x2x1x64_S1568x2x64x7_S1568x2x1x7_3_2_2_3_01_01 none q k

/-- A number for each row, repeated along the row. -/
def along (r : FVec Ideal S1568x2x1 .f32) : FVec Ideal S1568x2x1x7 .f32 :=
  broadcastInDim S1568x2x1x7 ![0, 1, 2, 3] bcast_S1568x2x1x1_S1568x2x1x7_0_1_2_3
    (broadcastInDim S1568x2x1x1 ![0, 1, 2] bcast_S1568x2x1_S1568x2x1x1_0_1_2 r)

/-- The greatest score of each row. -/
def top (s : FVec Ideal S1568x2x1x7 .f32) : FVec Ideal S1568x2x1 .f32 :=
  maximumf (broadcastInDim S1568x2x1 ![] bcast_S_S1568x2x1 (constant S_ .f32 0xFF800000#32))
    (Host.reduce FloatOps.maximumf s (constant S_ .f32 0xFF800000#32) reducesTo_S1568x2x1x7_S1568x2x1_d3 h_S_)

/-- The exponentials of the scores, each row shifted by its greatest. -/
def expd (s : FVec Ideal S1568x2x1x7 .f32) : FVec Ideal S1568x2x1x7 .f32 := Host.exp (subf s (along (top s)))

/-- The softmax of each row. -/
def soft (s : FVec Ideal S1568x2x1x7 .f32) : FVec Ideal S1568x2x1x7 .f32 :=
  Host.divf (expd s) (along (Host.reduceAdd (expd s) (constant S_ .f32 0x00000000#32) reducesTo_S1568x2x1x7_S1568x2x1_d3 h_S_))

/-- The attended values. -/
def att (p : FVec Ideal S1568x2x1x7 .f32) (v : FVec Ideal S1568x2x7x64 .f32) : FVec Ideal S1568x2x1x64 .f32 :=
  Host.dotGeneral dot_S1568x2x1x7_S1568x2x7x64_S1568x2x1x64_3_2_2_3_01_01 none p v

/-- The attended values, laid out by head. -/
def back (a : FVec Ideal S1568x2x1x64 .f32) : FVec Ideal S8x2x196x64 .f32 :=
  transpose S8x2x196x64 [0, 2, 1, 3] (shapeCast S8x196x2x64 (shapeCast S1568x2x64 a shapeCasts_S1568x2x1x64_S1568x2x64)
    shapeCasts_S1568x2x64_S8x196x2x64) transposes_S8x196x2x64_S8x2x196x64_0_2_1_3

/-- The gelu. -/
def gelu (o : FVec Ideal S8x2x196x64 .f32) : FVec Ideal S8x2x196x64 .f32 :=
  mulf (mulf (broadcastInDim S8x2x196x64 ![] bcast_S_S8x2x196x64 (constant S_ .f32 0x3F000000#32)) o)
    (addf (broadcastInDim S8x2x196x64 ![] bcast_S_S8x2x196x64 (constant S_ .f32 0x3F800000#32))
      (Host.erf (Host.divf o (broadcastInDim S8x2x196x64 ![] bcast_S_S8x2x196x64 (Host.sqrt (constant S_ .f32 0x40000000#32))))))

/-- The heads side by side again. -/
def join (g : FVec Ideal S8x2x196x64 .f32) : FVec Ideal S1x2x196x512 .f32 :=
  shapeCast S1x2x196x512 (transpose S1x2x196x8x64 [0, 2, 3, 1, 4] (shapeCast S1x8x2x196x64 g shapeCasts_S8x2x196x64_S1x8x2x196x64)
    transposes_S1x8x2x196x64_S1x2x196x8x64_0_2_3_1_4) shapeCasts_S1x2x196x8x64_S1x2x196x512

/-- The output projection. -/
def proj (g : FVec Ideal S1x2x196x512 .f32) (o : FVec Ideal S512x512 .f32) (b : FVec Ideal S512 .f32) : FVec Ideal S1x2x196x512 .f32 :=
  addf (Host.dotGeneral dot_S1x2x196x512_S512x512_S1x2x196x512_3_0_012_1_n_n none g
      (transpose S512x512 [1, 0] o transposes_S512x512_S512x512_1_0))
    (broadcastInDim S1x2x196x512 ![0, 1, 2, 3] bcast_S1x1x1x512_S1x2x196x512_0_1_2_3
      (broadcastInDim S1x1x1x512 ![3] bcast_S512_S1x1x1x512_3 b))

/-- The attended values of a projection. -/
def attended (a : FVec Ideal S1x2x196x1536 .f32) : FVec Ideal S8x2x196x64 .f32 :=
  back (att (soft (scores (q4 (qh a)) (ks (kv (kh a) (vh a))))) (vs (kv (kh a) (vh a))))

/-- The reference's result is the chain of these arrays. -/
theorem res_eq (m : (ℓ : Loc nD τ sig) → Buf (Elt Ideal) ℓ) (c : Dev nD) :
    Value.res_main_v94 m c
      = proj (join (gelu (attended (qkv (m ((c.tc : Thread nD τ).loc main_arg0)) (m ((c.tc : Thread nD τ).loc main_arg2))))))
          (m ((c.tc : Thread nD τ).loc main_arg3)) (m ((c.tc : Thread nD τ).loc main_arg4)) := by
  unfold Value.res_main_v94
  rfl

end Cert.ReferenceIdeal.Hand

end
-- ==== Proof.Routed.lean ====
/-
  The reference at an index. Each array of the chain is read at an index of variables; the scores of a query against its
  seven keys turn out to be one number, so the softmax gives each key one seventh and the attended value is the value.
-/
module

public import proofs.«01_k».proof.Proof.Stages
public import proofs.«01_k».proof.Proof.Scalars
public import Idealize.ShloMosaic.Lib.Pointwise

@[expose] public section

noncomputable section

namespace Cert.ReferenceIdeal.Hand

open Cert.ReferenceIdeal Cert.ReferenceIdeal.Gen Cert.Scalars Idealize.ShloMosaic

/-- A column of the projection is the product of a row of the input with a row of the weights. -/
theorem qkv_apply (x : FVec Ideal S1x2x196x512 .f32) (w : FVec Ideal S1536x512 .f32) (p : Fin 2) (n : Fin 196) (c : Fin 1536) :
    qkv x w (ix4 0 p n c) = ∑ k : Fin 512, x (ix4 0 p n k) * w (ix2 c k) := by
  pointwise [qkv, dot_S1x2x196x512_S512x1536_S1x2x196x1536_3_0_012_1_n_n]

/-- The queries of a head are 64 columns of the projection. -/
theorem qh_apply (a : FVec Ideal S1x2x196x1536 .f32) (p : Fin 2) (h : Fin 8) (n : Fin 196) (d : Fin 64) :
    qh a (ix5 0 p h n d) = a (ix4 0 p n ⟨h.val * 64 + d.val, by omega⟩) := by
  pointwise [qh, heads]

/-- The keys of a head are 64 columns of the projection. -/
theorem kh_apply (a : FVec Ideal S1x2x196x1536 .f32) (p : Fin 2) (h : Fin 8) (n : Fin 196) (d : Fin 64) :
    kh a (ix5 0 p h n d) = a (ix4 0 p n ⟨512 + (h.val * 64 + d.val), by omega⟩) := by
  pointwise [kh, heads]

/-- The values of a head are 64 columns of the projection. -/
theorem vh_apply (a : FVec Ideal S1x2x196x1536 .f32) (p : Fin 2) (h : Fin 8) (n : Fin 196) (d : Fin 64) :
    vh a (ix5 0 p h n d) = a (ix4 0 p n ⟨1024 + (h.val * 64 + d.val), by omega⟩) := by
  pointwise [vh, heads]

/-- A scaled query is a query over 8. -/
theorem q4_apply (q : FVec Ideal S1x2x8x196x64 .f32) (i : Fin 1568) (p : Fin 2) (d : Fin 64) :
    q4 q (ix4 i p 0 d) = q (ix5 0 ⟨i.val / 196 / 4, by omega⟩ ⟨i.val / 196 % 4 * 2 + p.val, by omega⟩
      ⟨i.val % 196, by omega⟩ d) * Ideal.ofBits .f32 0x3E000000#32 := by
  pointwise [q4]

/-- The seven routed keys are one key. -/
theorem ks_kv (k v : FVec Ideal S1x2x8x196x64 .f32) (i : Fin 1568) (p : Fin 2) (d : Fin 64) (t : Fin 7) :
    ks (kv k v) (ix4 i p d t) = k (ix5 0 ⟨(i.val / 196 * 2 + p.val) / 8, by omega⟩ ⟨(i.val / 196 * 2 + p.val) % 8, by omega⟩
      ⟨i.val % 196, by omega⟩ d) := by
  pointwise [ks, kv]

/-- The seven routed values are one value. -/
theorem vs_kv (k v : FVec Ideal S1x2x8x196x64 .f32) (i : Fin 1568) (p : Fin 2) (t : Fin 7) (d : Fin 64) :
    vs (kv k v) (ix4 i p t d) = v (ix5 0 ⟨(i.val / 196 * 2 + p.val) / 8, by omega⟩ ⟨(i.val / 196 * 2 + p.val) % 8, by omega⟩
      ⟨i.val % 196, by omega⟩ d) := by
  pointwise [vs, kv]

/-- A score is the product of a query and a key. -/
theorem scores_apply (s : FVec Ideal S1568x2x1x64 .f32) (v : FVec Ideal S1568x2x64x7 .f32) (i : Fin 1568) (p : Fin 2) (t : Fin 7) :
    scores s v (ix4 i p 0 t) = ∑ d : Fin 64, s (ix4 i p 0 d) * v (ix4 i p d t) := by
  pointwise [scores, dot_S1568x2x1x64_S1568x2x64x7_S1568x2x1x7_3_2_2_3_01_01]

/-- An attended value is the sum of the values, each weighted. -/
theorem att_apply (s : FVec Ideal S1568x2x1x7 .f32) (v : FVec Ideal S1568x2x7x64 .f32) (i : Fin 1568) (p : Fin 2) (d : Fin 64) :
    att s v (ix4 i p 0 d) = ∑ t : Fin 7, s (ix4 i p 0 t) * v (ix4 i p t d) := by
  pointwise [att, dot_S1568x2x1x7_S1568x2x7x64_S1568x2x1x64_3_2_2_3_01_01]

/-- Where the seven scores of a row are one real number, the shifted exponentials are 1. -/
theorem expd_same (s : FVec Ideal S1568x2x1x7 .f32) (i : Fin 1568) (p : Fin 2) (r : EReal) (hr : IsReal r)
    (h : ∀ t, s (ix4 i p 0 t) = r) (t : Fin 7) : expd s (ix4 i p 0 t) = 1 := by
  pointwise [expd, along, top]
  simp only [h]
  rw [bits_bot, fold_max_same (by norm_num), max_eq_right bot_le]
  exact exp_sub_self hr

/-- Where the seven scores of a row are one real number, the softmax gives each one seventh. -/
theorem soft_same (s : FVec Ideal S1568x2x1x7 .f32) (i : Fin 1568) (p : Fin 2) (r : EReal) (hr : IsReal r)
    (h : ∀ t, s (ix4 i p 0 t) = r) (t : Fin 7) : soft s (ix4 i p 0 t) = ((1 / 7 : ℝ) : EReal) := by
  pointwise [soft, along]
  simp only [expd_same s i p r hr h]
  exact one_div_seven

/-- The attended values by head. -/
theorem back_apply (a : FVec Ideal S1568x2x1x64 .f32) (g : Fin 8) (p : Fin 2) (n : Fin 196) (d : Fin 64) :
    back a (ix4 g p n d) = a (ix4 ⟨g.val * 196 + n.val, by omega⟩ p 0 d) := by
  pointwise [back]

/-- The gelu, entry by entry. -/
theorem gelu_apply (s : FVec Ideal S8x2x196x64 .f32) (i : Fin 8) (p : Fin 2) (n : Fin 196) (d : Fin 64) :
    gelu s (ix4 i p n d) = gelu1 (s (ix4 i p n d)) := by
  pointwise [gelu]
  rw [div_sqrt_two]
  rfl

/-- The heads side by side: column `c` is entry `c % 64` of head `c / 64`. -/
theorem join_apply (a : FVec Ideal S8x2x196x64 .f32) (p : Fin 2) (n : Fin 196) (c : Fin 512) :
    join a (ix4 0 p n c) = a (ix4 ⟨c.val / 64, by omega⟩ p n ⟨c.val % 64, by omega⟩) := by
  pointwise [join]

/-- The output projection, entry by entry. -/
theorem proj_apply (g : FVec Ideal S1x2x196x512 .f32) (o : FVec Ideal S512x512 .f32) (b : FVec Ideal S512 .f32) (p : Fin 2) (n : Fin 196) (j : Fin 512) :
    proj g o b (ix4 0 p n j) = (∑ e : Fin 512, g (ix4 0 p n e) * o (ix2 j e)) + b (ix1 j) := by
  pointwise [proj, dot_S1x2x196x512_S512x512_S1x2x196x512_3_0_012_1_n_n]

/-- Where the queries and keys are real, the attended value of a head is the value itself, of the batch and head that the
    reference's reshapes bring there. -/
theorem attended_apply (a : FVec Ideal S1x2x196x1536 .f32)
    (hr : ∀ (p : Fin 2) (n : Fin 196) (c : Fin 1536), c.val < 1024 → IsReal (a (ix4 0 p n c)))
    (g : Fin 8) (p : Fin 2) (n : Fin 196) (d : Fin 64) :
    attended a (ix4 g p n d)
      = a (ix4 0 ⟨(g.val * 2 + p.val) / 8, by omega⟩ n ⟨1024 + ((g.val * 2 + p.val) % 8 * 64 + d.val), by omega⟩) := by
  have hi : g.val * 196 + n.val < 1568 := by omega
  have e1 : (g.val * 196 + n.val) / 196 = g.val := by omega
  have e2 : (g.val * 196 + n.val) % 196 = n.val := by omega
  have hsame : ∀ t : Fin 7, scores (q4 (qh a)) (ks (kv (kh a) (vh a))) (ix4 ⟨g.val * 196 + n.val, hi⟩ p 0 t)
      = scores (q4 (qh a)) (ks (kv (kh a) (vh a))) (ix4 ⟨g.val * 196 + n.val, hi⟩ p 0 0) := fun t => by
    rw [scores_apply, scores_apply]
    refine Finset.sum_congr rfl fun e _ => ?_
    rw [ks_kv, ks_kv]
  have hreal : IsReal (scores (q4 (qh a)) (ks (kv (kh a) (vh a))) (ix4 ⟨g.val * 196 + n.val, hi⟩ p 0 0)) := by
    rw [scores_apply]
    refine IsReal.sum _ _ fun e => IsReal.mul ?_ ?_
    · rw [q4_apply, qh_apply, bits_eighth]
      exact (hr _ _ _ (by show _ * 64 + e.val < 1024; omega)).mul ⟨_, rfl⟩
    · rw [ks_kv, kh_apply]
      exact hr _ _ _ (by show 512 + (_ * 64 + e.val) < 1024; omega)
  rw [attended, back_apply, att_apply]
  simp only [soft_same _ _ _ _ hreal hsame, vs_kv, vh_apply, e1, e2]
  exact seven_shares _

/-- The value of the attention at batch `p`, position `n` and column `c`: a row of the input against a row of the
    value weights. -/
def val (x : FVec Ideal S1x2x196x512 .f32) (w : FVec Ideal S1536x512 .f32) (p : Fin 2) (n : Fin 196) (c : Fin 512) : EReal :=
  ∑ k : Fin 512, x (ix4 0 p n k) * w (ix2 (n0 := 1536) (n1 := 512) ⟨1024 + c.val, by omega⟩ k)

/-- The reference's result at an index, where the input and the weights of queries and keys are real. -/
theorem res_apply (x : FVec Ideal S1x2x196x512 .f32) (w : FVec Ideal S1536x512 .f32) (o : FVec Ideal S512x512 .f32) (b : FVec Ideal S512 .f32)
    (hx : ∀ i, IsReal (x i)) (hw : ∀ (c : Fin 1536) (k : Fin 512), c.val < 1024 → IsReal (w (ix2 c k)))
    (p : Fin 2) (n : Fin 196) (j : Fin 512) :
    proj (join (gelu (attended (qkv x w)))) o b (ix4 0 p n j)
      = (∑ e : Fin 512, gelu1 (val x w ⟨(e.val / 64 * 2 + p.val) / 8, by omega⟩ n
          ⟨(e.val / 64 * 2 + p.val) % 8 * 64 + e.val % 64, by omega⟩) * o (ix2 j e)) + b (ix1 j) := by
  rw [proj_apply]
  refine congrArg (· + _) (Finset.sum_congr rfl fun e _ => ?_)
  rw [join_apply, gelu_apply, attended_apply, qkv_apply]
  · rfl
  · intro p n c hc
    rw [qkv_apply]
    exact IsReal.sum _ _ fun k => (hx _).mul (hw c k hc)

end Cert.ReferenceIdeal.Hand

end
-- ==== Proof.Equation.lean ====
/-
  The kernel's result and the reference's are one array: both are, at each index, the same sum over the heads' columns.
-/
module

public import proofs.«01_k».proof.Proof.Planes
public import proofs.«01_k».proof.Proof.Routed

@[expose] public section

noncomputable section

namespace Cert.Equation

open Cert.KernelIdeal Cert.KernelIdeal.Gen Cert.Scalars Idealize.ShloMosaic

/-- A plane of the input is read through the cast that drops the first axis. -/
theorem plane_apply (x : FVec Ideal S1x2x196x512 .f32) (p : Fin 2) (n : Fin 196) (k : Fin 512) :
    shapeCast S2x196x512 x shapeCasts_S1x2x196x512_S2x196x512 (ix3 p n k) = x (ix4 0 p n k) := by
  pointwise

/-- The bias is read through the cast to one row. -/
theorem row_apply (b : FVec Ideal S512 .f32) (j : Fin 512) :
    shapeCast S1x512 b shapeCasts_S512_S1x512 (ix2 0 j) = b (ix1 j) := by
  pointwise

/-- The result is read through the axis put in front. -/
theorem front_apply (y : FVec Ideal S2x196x512 .f32) (p : Fin 2) (n : Fin 196) (j : Fin 512) :
    broadcastInDim S1x2x196x512 ![1, 2, 3] bcast_S2x196x512_S1x2x196x512_1_2_3 y (ix4 0 p n j) = y (ix3 p n j) := by
  pointwise

/-- The kernel's result is the reference's, where the input and the weights of the queries and keys are real. -/
theorem result_eq (x : FVec Ideal S1x2x196x512 .f32) (w : FVec Ideal S1536x512 .f32) (o : FVec Ideal S512x512 .f32) (b : FVec Ideal S512 .f32)
    (hx : ∀ i, IsReal (x i)) (hw : ∀ (c : Fin 1536) (k : Fin 512), c.val < 1024 → IsReal (w (ix2 c k))) :
    (broadcastInDim S1x2x196x512 ![1, 2, 3] bcast_S2x196x512_S1x2x196x512_1_2_3
        (KernelIdeal.Hand.out (shapeCast S2x196x512 x shapeCasts_S1x2x196x512_S2x196x512) w o (shapeCast S1x512 b shapeCasts_S512_S1x512))
        : FVec Ideal S1x2x196x512 .f32)
      = ReferenceIdeal.Hand.proj (ReferenceIdeal.Hand.join (ReferenceIdeal.Hand.gelu (ReferenceIdeal.Hand.attended (ReferenceIdeal.Hand.qkv x w)))) o b := by
  funext i
  obtain ⟨z, p, n, j, rfl⟩ : ∃ (z : Fin 1) (p : Fin 2) (n : Fin 196) (j : Fin 512), i = ix4 z p n j :=
    ⟨i 0, i 1, i 2, i 3, eq_ix4 i⟩
  obtain rfl : z = 0 := Subsingleton.elim _ _
  rw [front_apply, KernelIdeal.Hand.out_apply, row_apply]
  refine Eq.trans ?_ (ReferenceIdeal.Hand.res_apply x w o b hx hw p n j).symm
  simp only [plane_apply]
  rfl

end Cert.Equation

end
-- ==== Proof.lean ====
/- The proof of the claims. Each frame is the run of its program; the named constant is the inverse of the root of 2; and the
   kernel's result is the reference's because both are the same array of the arguments (Proof/Equation.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.Run
public import proofs.«01_k».proof.Proof.Finite
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, leaves its arguments and ends with every counter at zero. -/
theorem frame_kernel : Cert.quiescent_Kernel := fun m g _ =>
  (θ_run Cert.Kernel.defs _ _).mono (fun _ h => ⟨fun c => (h.1 c).2, h.2⟩) (Cert.Kernel.Hand.run (F := Bits) m g)

/-- The idealized kernel does. -/
theorem frame_kernelIdeal : Cert.quiescent_KernelIdeal := fun m g _ =>
  (θ_run Cert.KernelIdeal.defs _ _).mono (fun _ h => ⟨fun c => (h.1 c).2, h.2⟩) (Cert.KernelIdeal.Hand.run (F := Ideal) m g)

/-- The reference does. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Naming the constant keeps the kernel: the literal is the one the name stands for. -/
theorem preserves : Cert.preserves_Kernel_KernelIdeal :=
  IdealRules.named_const.statement Cert.KernelIdeal.κ "inv_sqrt_2" .f32 0x3F3504F3#32 (((Real.sqrt 2)⁻¹ : ℝ) : EReal) rfl

/-- From equal arguments of which the precondition holds, the idealized kernel and the reference end with one result. -/
theorem algebraic : Cert.algebraic_KernelIdeal_ReferenceIdeal_pre_finite_scores := fun m g m' g' hpre hagree =>
  ⟨fun c => broadcastInDim Cert.KernelIdeal.S1x2x196x512 ![1, 2, 3] Cert.KernelIdeal.Gen.bcast_S2x196x512_S1x2x196x512_1_2_3 (Cert.KernelIdeal.Hand.left m c),
    (θ_run Cert.KernelIdeal.defs _ _).mono (fun _ h c => h.1 c) (Cert.KernelIdeal.Hand.run (F := Ideal) m g),
    (θ_run Cert.ReferenceIdeal.defs _ _).mono (fun _ h c => ⟨(h c).1.trans (by
      obtain ⟨h0, -, h2, h3, h4⟩ := hagree c
      obtain ⟨hx, hw⟩ := Cert.Pre_finite_scores.Hand.real _ _ _ _ _ (hpre c)
      rw [Cert.ReferenceIdeal.Hand.res_eq, h0, h2, h3, h4]
      refine (Cert.Equation.result_eq _ _ _ _ hx hw).symm.trans ?_
      beta_reduce
      rw [Cert.KernelIdeal.Hand.left, Cert.KernelIdeal.Hand.V_v0, Cert.KernelIdeal.Hand.V_v1,
        Cert.KernelIdeal.Gen.V_main_arg2, Cert.KernelIdeal.Gen.V_main_arg3]), (h c).2⟩)
      (Cert.ReferenceIdeal.Value.run (F := Ideal) m' g')⟩

/-- All the claims. -/
theorem claim : Cert.Claim :=
  ⟨Cert.Kernel.Gen.facts, Cert.KernelIdeal.Gen.facts, Cert.ReferenceIdeal.Gen.facts, Cert.Pre_finite_scores.Hand.facts,
    frame_kernel, frame_kernelIdeal, fun m g _ => frame_kernelIdeal m g trivial, frame_reference, fun m g _ => frame_reference m g trivial,
    preserves, algebraic⟩

end Cert.Proof

end
